-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S304x512 : Shape := ⟨2, ![304, 512]⟩
abbrev S4 : Shape := ⟨1, ![4]⟩
abbrev S9 : Shape := ⟨1, ![9]⟩
abbrev S7 : Shape := ⟨1, ![7]⟩
abbrev S1 : Shape := ⟨1, ![1]⟩
abbrev S_ : Shape := ⟨0, ![]⟩
abbrev S256x512 : Shape := ⟨2, ![256, 512]⟩
abbrev S1x256x512 : Shape := ⟨3, ![1, 256, 512]⟩
abbrev S48x512 : Shape := ⟨2, ![48, 512]⟩
abbrev S1x48x512 : Shape := ⟨3, ![1, 48, 512]⟩
abbrev S32x512 : Shape := ⟨2, ![32, 512]⟩
abbrev S16x512 : Shape := ⟨2, ![16, 512]⟩
abbrev S512x1 : Shape := ⟨2, ![512, 1]⟩
abbrev S32x1 : Shape := ⟨2, ![32, 1]⟩
abbrev S16x1 : Shape := ⟨2, ![16, 1]⟩
abbrev S48x1 : Shape := ⟨2, ![48, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S512x512, .f32⟩
  | .local _ .vmem, ⟨0, _⟩ => ⟨S1x512, .f32⟩
  | .local _ .vmem, ⟨1, _⟩ => ⟨S304x512, .f32⟩
  | .local _ .vmem, ⟨2, _⟩ => ⟨S304x512, .f32⟩
  | .local _ .vmem, ⟨3, _⟩ => ⟨S304x512, .f32⟩
  | .local _ .vmem, ⟨4, _⟩ => ⟨S304x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_mult1 (d0 : Dev nD) : BitVec 32 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  v8
def k0_mult2 (d0 : Dev nD) : BitVec 32 :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_4 v5
  let c256_i32_5 : BitVec 32 := 256#32
  let v11 : BitVec 32 := Scalar.muli v10 c256_i32_5
  v11
def k0_off1 (d0 : Dev nD) : Fin 3 → Nat :=
  let c0_i32 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v9 : BitVec 32 := v8
  let c0_i32_10 : BitVec 32 := 0#32
  ![0, v9.toNat, 0]
def k0_off2 (d0 : Dev nD) : Fin 3 → Nat :=
  let c0_i32_11 : BitVec 32 := 0#32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_4 v5
  let c256_i32_5 : BitVec 32 := 256#32
  let v11 : BitVec 32 := Scalar.muli v10 c256_i32_5
  let v12 : BitVec 32 := v11
  let c208_i32 : BitVec 32 := 208#32
  let v13 : BitVec 32 := Scalar.addi v12 c208_i32
  let c0_i32_15 : BitVec 32 := 0#32
  ![0, v13.toNat, 0]
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v9 : BitVec 32 := v8
  let c0_i32_19 : BitVec 32 := 0#32
  ![v9.toNat, 0]
def k0_off4 (d0 : Dev nD) : Fin 2 → Nat :=
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v10 : BitVec 32 := Scalar.subi c1_i32_4 v5
  let c256_i32_5 : BitVec 32 := 256#32
  let v11 : BitVec 32 := Scalar.muli v10 c256_i32_5
  let v12 : BitVec 32 := v11
  let c208_i32_6 : BitVec 32 := 208#32
  let v14 : BitVec 32 := Scalar.addi v12 c208_i32_6
  let c0_i32_22 : BitVec 32 := 0#32
  ![v14.toNat, 0]
def k0_dev1 (d0 : Dev nD) : Nat :=
  let c0_i32_25 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_24 : BitVec 32 := 2#32
  let v34 : BitVec 32 := Scalar.muli v6 c2_i32_24
  let v35 : BitVec 32 := Scalar.addi c0_i32_25 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_26 : BitVec 32 := 1#32
  let v36 : BitVec 32 := Scalar.muli v5 c1_i32_26
  let v37 : BitVec 32 := Scalar.addi v35 v36
  v37.toNat
def k0_dev2 (d0 : Dev nD) : Nat :=
  let c0_i32_29 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_28 : BitVec 32 := 2#32
  let v38 : BitVec 32 := Scalar.muli v2 c2_i32_28
  let v39 : BitVec 32 := Scalar.addi c0_i32_29 v38
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_30 : BitVec 32 := 1#32
  let v40 : BitVec 32 := Scalar.muli v7 c1_i32_30
  let v41 : BitVec 32 := Scalar.addi v39 v40
  v41.toNat
def k0_dev3 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v52 : BitVec 32 := Scalar.muli v6 c2_i32_44
  let v53 : BitVec 32 := Scalar.addi c0_i32_45 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v54 : BitVec 32 := Scalar.muli v5 c1_i32_46
  let v55 : BitVec 32 := Scalar.addi v53 v54
  v55.toNat
def k0_dev4 (d0 : Dev nD) : Nat :=
  let c0_i32_54 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_53 : BitVec 32 := 2#32
  let v62 : BitVec 32 := Scalar.muli v6 c2_i32_53
  let v63 : BitVec 32 := Scalar.addi c0_i32_54 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_55 : BitVec 32 := 1#32
  let v64 : BitVec 32 := Scalar.muli v5 c1_i32_55
  let v65 : BitVec 32 := Scalar.addi v63 v64
  v65.toNat
def k0_dev5 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v72 : BitVec 32 := Scalar.muli v6 c2_i32_61
  let v73 : BitVec 32 := Scalar.addi c0_i32_62 v72
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v74 : BitVec 32 := Scalar.muli v5 c1_i32_63
  let v75 : BitVec 32 := Scalar.addi v73 v74
  v75.toNat
def k0_dev6 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v82 : BitVec 32 := Scalar.muli v6 c2_i32_69
  let v83 : BitVec 32 := Scalar.addi c0_i32_70 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v84 : BitVec 32 := Scalar.muli v5 c1_i32_71
  let v85 : BitVec 32 := Scalar.addi v83 v84
  v85.toNat
def k0_dev7 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v92 : BitVec 32 := Scalar.muli v6 c2_i32_76
  let v93 : BitVec 32 := Scalar.addi c0_i32_77 v92
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v94 : BitVec 32 := Scalar.muli v5 c1_i32_78
  let v95 : BitVec 32 := Scalar.addi v93 v94
  v95.toNat
def k0_dev8 (d0 : Dev nD) : Nat :=
  let c0_i32_84 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_83 : BitVec 32 := 2#32
  let v102 : BitVec 32 := Scalar.muli v6 c2_i32_83
  let v103 : BitVec 32 := Scalar.addi c0_i32_84 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_85 : BitVec 32 := 1#32
  let v104 : BitVec 32 := Scalar.muli v5 c1_i32_85
  let v105 : BitVec 32 := Scalar.addi v103 v104
  v105.toNat
def k0_dev9 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v112 : BitVec 32 := Scalar.muli v6 c2_i32_90
  let v113 : BitVec 32 := Scalar.addi c0_i32_91 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v114 : BitVec 32 := Scalar.muli v5 c1_i32_92
  let v115 : BitVec 32 := Scalar.addi v113 v114
  v115.toNat
def k0_dev10 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v122 : BitVec 32 := Scalar.muli v6 c2_i32_97
  let v123 : BitVec 32 := Scalar.addi c0_i32_98 v122
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v124 : BitVec 32 := Scalar.muli v5 c1_i32_99
  let v125 : BitVec 32 := Scalar.addi v123 v124
  v125.toNat
def k0_dev11 (d0 : Dev nD) : Nat :=
  let c0_i32_106 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_105 : BitVec 32 := 2#32
  let v132 : BitVec 32 := Scalar.muli v6 c2_i32_105
  let v133 : BitVec 32 := Scalar.addi c0_i32_106 v132
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_107 : BitVec 32 := 1#32
  let v134 : BitVec 32 := Scalar.muli v5 c1_i32_107
  let v135 : BitVec 32 := Scalar.addi v133 v134
  v135.toNat
def k0_off5 (d0 : Dev nD) (c0_i32_137 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v9 : BitVec 32 := v8
  let v171 : BitVec 32 := Scalar.addi v9 c0_i32_137
  let c0_i32_143 : BitVec 32 := 0#32
  ![v171.toNat, 0]
def k0_dev12 (d0 : Dev nD) : Nat :=
  let c0_i32_149 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_148 : BitVec 32 := 2#32
  let v185 : BitVec 32 := Scalar.muli v2 c2_i32_148
  let v186 : BitVec 32 := Scalar.addi c0_i32_149 v185
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_150 : BitVec 32 := 1#32
  let v187 : BitVec 32 := Scalar.muli v7 c1_i32_150
  let v188 : BitVec 32 := Scalar.addi v186 v187
  v188.toNat
def k0_dev13 (d0 : Dev nD) : Nat :=
  let c0_i32_183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_182 : BitVec 32 := 2#32
  let v229 : BitVec 32 := Scalar.muli v2 c2_i32_182
  let v230 : BitVec 32 := Scalar.addi c0_i32_183 v229
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_184 : BitVec 32 := 1#32
  let v231 : BitVec 32 := Scalar.muli v7 c1_i32_184
  let v232 : BitVec 32 := Scalar.addi v230 v231
  v232.toNat
def k0_dev14 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v273 : BitVec 32 := Scalar.muli v2 c2_i32_216
  let v274 : BitVec 32 := Scalar.addi c0_i32_217 v273
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_218 : BitVec 32 := 1#32
  let v275 : BitVec 32 := Scalar.muli v7 c1_i32_218
  let v276 : BitVec 32 := Scalar.addi v274 v275
  v276.toNat
def k0_dev15 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v317 : BitVec 32 := Scalar.muli v2 c2_i32_250
  let v318 : BitVec 32 := Scalar.addi c0_i32_251 v317
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_252 : BitVec 32 := 1#32
  let v319 : BitVec 32 := Scalar.muli v7 c1_i32_252
  let v320 : BitVec 32 := Scalar.addi v318 v319
  v320.toNat
def k0_dev16 (d0 : Dev nD) : Nat :=
  let c0_i32_285 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_284 : BitVec 32 := 2#32
  let v361 : BitVec 32 := Scalar.muli v2 c2_i32_284
  let v362 : BitVec 32 := Scalar.addi c0_i32_285 v361
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_286 : BitVec 32 := 1#32
  let v363 : BitVec 32 := Scalar.muli v7 c1_i32_286
  let v364 : BitVec 32 := Scalar.addi v362 v363
  v364.toNat
def k0_dev17 (d0 : Dev nD) : Nat :=
  let c0_i32_319 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_318 : BitVec 32 := 2#32
  let v405 : BitVec 32 := Scalar.muli v2 c2_i32_318
  let v406 : BitVec 32 := Scalar.addi c0_i32_319 v405
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_320 : BitVec 32 := 1#32
  let v407 : BitVec 32 := Scalar.muli v7 c1_i32_320
  let v408 : BitVec 32 := Scalar.addi v406 v407
  v408.toNat
def k0_off6 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v9 : BitVec 32 := v8
  let c192_i32_341 : BitVec 32 := 192#32
  let v435 : BitVec 32 := Scalar.addi v9 c192_i32_341
  let c0_i32_347 : BitVec 32 := 0#32
  ![v435.toNat, 0]
def k0_dev18 (d0 : Dev nD) : Nat :=
  let c0_i32_353 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_352 : BitVec 32 := 2#32
  let v449 : BitVec 32 := Scalar.muli v2 c2_i32_352
  let v450 : BitVec 32 := Scalar.addi c0_i32_353 v449
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_354 : BitVec 32 := 1#32
  let v451 : BitVec 32 := Scalar.muli v7 c1_i32_354
  let v452 : BitVec 32 := Scalar.addi v450 v451
  v452.toNat
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32 : BitVec 32 := 256#32
  let v8 : BitVec 32 := Scalar.muli v5 c256_i32
  let v9 : BitVec 32 := v8
  let c208_i32_375 : BitVec 32 := 208#32
  let v479 : BitVec 32 := Scalar.addi v9 c208_i32_375
  let c0_i32_381 : BitVec 32 := 0#32
  ![v479.toNat, 0]
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.KernelIdealRun.Text.lean ====
/-
  The kernel body written once over its nine row chunks.

  The printed body spells every chunk out. Here it is a short program over the chunk number: the four fetches, the two
  barrier signals, the nine exchanges along x, the nine reductions (each stored at home and, for the first seven chunks,
  forwarded along y), and the waits that close it. `body_eq` says that the printed body IS that program.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

set_option maxRecDepth 16384

noncomputable section

namespace Cert.KernelIdealRun

open Cert.KernelIdeal Cert.KernelIdeal.Gen
open Idealize.ShloMosaic Idealize.ShloMosaic.TcCoe
open Idealize.SL Idealize.SL.Sem

variable {F : FTy → Type} [FloatOps F]

/-! ## The chunks -/

/-- `n` rows of 512. -/
abbrev Sh (n : ℕ) : Shape := ⟨2, ![n, 512]⟩

/-- How many rows each chunk has. -/
def sz : Fin 9 → ℕ := ![32, 32, 32, 32, 32, 32, 16, 48, 48]
/-- The row of the scratch buffers each chunk starts at. -/
def off : Fin 9 → ℕ := ![0, 32, 64, 96, 128, 160, 192, 208, 256]
/-- One of the first seven chunks, the ones forwarded along y. -/
abbrev up (k : Fin 7) : Fin 9 := k.castLE (by decide)

theorem sz_pos (k : Fin 9) : 0 < sz k := by revert k; decide
theorem off_add_sz_le (k : Fin 9) : off k + sz k ≤ 304 := by revert k; decide

/-- `n` rows of 512 from row `a` on lie inside the first `N` of them. -/
theorem inbRows {N n a : ℕ} (h : a + n ≤ N) : ∀ i, (![a, 0] : Fin 2 → ℕ) i + (Sh n).size i ≤ (Sh N).size i
  | ⟨0, _⟩ => h
  | ⟨1, _⟩ => le_refl 512

theorem numel_pos {n : ℕ} (h : 0 < n) : 0 < (Sh n).numel := by
  unfold Shape.numel
  rw [Fin.prod_univ_two]
  exact Nat.mul_pos h (show 0 < 512 by decide)

/-- The rectangle of the scratch buffers chunk `k` is. -/
abbrev rc (k : Fin 9) : Rect S304x512 := Rect.unit (s := S304x512) ![off k, 0] (Sh (sz k)).size (inbRows (off_add_sz_le k))

/-! ## The buffers and the semaphores -/

abbrev aM : Memref sig .tc .hbm S1x512x512 .f32 := Memref.whole main_arg0
abbrev bM : Memref sig .tc .hbm S512x512 .f32 := Memref.whole main_arg1
abbrev gM : Memref sig .tc .vmem S1x512 .f32 := Memref.whole cc0_stg0_0
abbrev oM : Memref sig .tc .hbm S512x512 .f32 := Memref.whole main_v2
abbrev pM : Memref sig .tc .vmem S304x512 .f32 := Memref.whole cc0_scratch0
abbrev rM : Memref sig .tc .vmem S304x512 .f32 := Memref.whole cc0_scratch1
abbrev cM : Memref sig .tc .vmem S304x512 .f32 := Memref.whole cc0_scratch2
abbrev uM : Memref sig .tc .vmem S304x512 .f32 := Memref.whole cc0_scratch3

/-- Chunk `k` of a scratch buffer. -/
abbrev part (M : Memref sig .tc .vmem S304x512 .f32) (k : Fin 9) : Memref sig .tc .vmem (Sh (sz k)) .f32 := M.slice (rc k) (fun _ => rfl)

/-- The semaphores of the four fetches. -/
def cpS (i : Fin 4) : DmaSem sig := ⟨1 + i.val, by have : sig.nDmaSem = 46 := rfl; omega⟩
/-- The semaphores of the nine stores of a device's own rows. -/
def stS (k : Fin 9) : DmaSem sig := ⟨5 + k.val, by have : sig.nDmaSem = 46 := rfl; omega⟩
/-- The semaphores that say that the chunks sent along x have left. -/
def saS (k : Fin 9) : DmaSem sig := ⟨14 + k.val, by have : sig.nDmaSem = 46 := rfl; omega⟩
/-- The semaphores that say that the partner's chunks have come along x. -/
def raS (k : Fin 9) : DmaSem sig := ⟨23 + k.val, by have : sig.nDmaSem = 46 := rfl; omega⟩
/-- The semaphores that say that the chunks forwarded along y have left. -/
def sbS (k : Fin 7) : DmaSem sig := ⟨32 + k.val, by have : sig.nDmaSem = 46 := rfl; omega⟩
/-- The semaphores that say that the partner's chunks have come along y. -/
def rbS (k : Fin 7) : DmaSem sig := ⟨39 + k.val, by have : sig.nDmaSem = 46 := rfl; omega⟩

/-! ## Where each device writes and whom it addresses, as the kernel computes it -/

/-- Where chunk `k` of the result goes on device `c`. -/
def dOff (c : Dev nD) : Fin 9 → Fin 2 → ℕ
  | 0 => k0_off5 c 0#32 | 1 => k0_off5 c 32#32 | 2 => k0_off5 c 64#32 | 3 => k0_off5 c 96#32 | 4 => k0_off5 c 128#32
  | 5 => k0_off5 c 160#32 | 6 => k0_off6 c | 7 => k0_off7 c | 8 => k0_off4 c

theorem dOff_inb (c : Dev nD) (k : Fin 9) : ∀ i, dOff c k i + (Sh (sz k)).size i ≤ S512x512.size i := by
  revert c k; decide

/-- Chunk `k` of the result on device `c`. -/
abbrev dst (c : Dev nD) (k : Fin 9) : Memref sig .tc .hbm (Sh (sz k)) .f32 :=
  oM.slice (Rect.unit (s := S512x512) (dOff c k) (Sh (sz k)).size (dOff_inb c k)) (fun _ => rfl)

/-- The device chunk `k` is sent to along x. -/
def xDev (c : Dev nD) : Fin 9 → Dev nD
  | 0 => ⟨k0_dev3 c, k0_dev3_lt c⟩ | 1 => ⟨k0_dev4 c, k0_dev4_lt c⟩ | 2 => ⟨k0_dev5 c, k0_dev5_lt c⟩
  | 3 => ⟨k0_dev6 c, k0_dev6_lt c⟩ | 4 => ⟨k0_dev7 c, k0_dev7_lt c⟩ | 5 => ⟨k0_dev8 c, k0_dev8_lt c⟩
  | 6 => ⟨k0_dev9 c, k0_dev9_lt c⟩ | 7 => ⟨k0_dev10 c, k0_dev10_lt c⟩ | 8 => ⟨k0_dev11 c, k0_dev11_lt c⟩
/-- The device chunk `k` is forwarded to along y. -/
def yDev (c : Dev nD) : Fin 7 → Dev nD
  | 0 => ⟨k0_dev12 c, k0_dev12_lt c⟩ | 1 => ⟨k0_dev13 c, k0_dev13_lt c⟩ | 2 => ⟨k0_dev14 c, k0_dev14_lt c⟩
  | 3 => ⟨k0_dev15 c, k0_dev15_lt c⟩ | 4 => ⟨k0_dev16 c, k0_dev16_lt c⟩ | 5 => ⟨k0_dev17 c, k0_dev17_lt c⟩
  | 6 => ⟨k0_dev18 c, k0_dev18_lt c⟩

/-! ## What one chunk's reduction computes -/

theorem bcCol (n : ℕ) : (⟨2, ![n, 1]⟩ : Shape).Broadcasts (Sh n) :=
  ⟨le_refl _, fun | ⟨0, _⟩ => .inr fun _ => rfl | ⟨1, _⟩ => .inl rfl⟩
theorem bcRow (n : ℕ) : S1x512.Broadcasts (Sh n) :=
  ⟨le_refl _, fun | ⟨0, _⟩ => .inl rfl | ⟨1, _⟩ => .inr fun _ => rfl⟩

/-- The rows a reduction works on: the two partial sums and the residual added. -/
def sum3 {n : ℕ} (x y z : Vec F (Sh n) .f32) : FVec F (Sh n) .f32 := addf (addf x y) z
/-- What each row is multiplied with, from the row's sum of squares. -/
def scale {n : ℕ} (w : FVec F (Sh n) .f32) : FVec F ⟨2, ![n, 1]⟩ .f32 :=
  rsqrt (addf (mulf (matmul (DotDims.plain n 512 1) none (mulf w w) (broadcast S512x1 (Scalar.ofBits .f32 0x3F800000#32))
    (constant ⟨2, ![n, 1]⟩ .f32 0x00000000#32)) (broadcast ⟨2, ![n, 1]⟩ (Scalar.ofBits .f32 0x3B000000#32)))
    (broadcast ⟨2, ![n, 1]⟩ (Scalar.ofBits .f32 0x358637BD#32)))
/-- A chunk of the result from the two partial sums, the residual and the gains. -/
def pay {n : ℕ} (x y z : Vec F (Sh n) .f32) (g : Vec F S1x512 .f32) : FVec F (Sh n) .f32 :=
  shapeCast (Sh n) (mulf (mulf (sum3 x y z) (broadcastTo (Sh n) (scale (sum3 x y z)) (bcCol n)))
    (broadcastTo (Sh n) (shapeCast S1x512 g rfl) (bcRow n))) rfl

/-! ## The program -/

abbrev PT : Type 1 := Prog (TpuEff nD τ sig (Elt F) Λ₀ .tc) PUnit

/-- Chunk `k` sent along x. -/
def send (c : Dev nD) (k : Fin 9) (K : PT (F := F)) : PT (F := F) :=
  .op (.enqueueDma (part pM k) (.remote (Dev.tc (xDev c k)) (part cM k) (.dma (saS k))) (.dma (raS k)) (View.wordExact_bits rfl)
    (View.wordExact_bits rfl) ⟨⟨rfl, Or.inl rfl⟩, trivial⟩) fun _ => K

/-- Chunk `k` reduced and stored on the device's own rows, once the partner's has come. -/
def stage (c : Dev nD) (k : Fin 9) (K : PT (F := F)) : PT (F := F) :=
  .op (.waitDma2 (raS k) (part pM k) (part cM k) (View.wordExact_bits rfl) (View.wordExact_bits rfl)) fun _ =>
  .op (.load pM (rc k).toLoadRect (View.loadsAt_vmem (numel_pos (sz_pos k)))) fun x =>
  .op (.load cM (rc k).toLoadRect (View.loadsAt_vmem (numel_pos (sz_pos k)))) fun y =>
  .op (.load rM (rc k).toLoadRect (View.loadsAt_vmem (numel_pos (sz_pos k)))) fun z =>
  .op (.load gM (Rect.unit (s := S1x512) ![0, 0] S1x512.size inb_S1x512_S1x512_0_0).toLoadRect (View.loadsAt_vmem h_S1x512)) fun g =>
  .op (.load uM (rc k).toLoadRect (View.loadsAt_vmem (numel_pos (sz_pos k)))) fun _ =>
  .op (.store uM (rc k) (pay (n := sz k) x y z g) Finset.univ (View.stores_vmem_bits_univ (numel_pos (sz_pos k)) rfl) (.inl rfl)) fun _ =>
  .op (.enqueueDma (part uM k) (.here (dst c k)) (.dma (stS k)) (View.wordExact_bits rfl) (View.wordExact_bits rfl)
    ⟨Or.inl rfl, trivial⟩) fun _ => K

/-- Chunk `k` forwarded along y. -/
def fwd (c : Dev nD) (k : Fin 7) (K : PT (F := F)) : PT (F := F) :=
  .op (.enqueueDma (part uM (up k)) (.remote (Dev.tc (yDev c k)) (dst c (up k)) (.dma (sbS k))) (.dma (rbS k)) (View.wordExact_bits rfl)
    (View.wordExact_bits rfl) ⟨⟨rfl, Or.inl rfl⟩, trivial⟩) fun _ => K

/-- The waits for chunk `k` to have left along x and to be stored at home. -/
def closeA (c : Dev nD) (k : Fin 9) (K : PT (F := F)) : PT (F := F) :=
  .op (.waitDma2 (saS k) (part cM k) (part pM k) (View.wordExact_bits rfl) (View.wordExact_bits rfl)) fun _ =>
  .op (.waitDma2 (stS k) (part uM k) (dst c k) (View.wordExact_bits rfl) (View.wordExact_bits rfl)) fun _ => K

/-- The waits for chunk `k` to have left along y and for the partner's to have come. -/
def closeB (c : Dev nD) (k : Fin 7) (K : PT (F := F)) : PT (F := F) :=
  .op (.waitDma2 (sbS k) (dst c (up k)) (part uM (up k)) (View.wordExact_bits rfl) (View.wordExact_bits rfl)) fun _ =>
  .op (.waitDma2 (rbS k) (part uM (up k)) (dst c (up k)) (View.wordExact_bits rfl) (View.wordExact_bits rfl)) fun _ => K

/-- The first 256 rows of a scratch buffer, the device's own rows of an argument fetched. -/
abbrev lo (M : Memref sig .tc .vmem S304x512 .f32) : Memref sig .tc .vmem S256x512 .f32 :=
  M.slice (Rect.unit (s := S304x512) ![0, 0] S256x512.size inb_S304x512_S256x512_0_0) (fun _ => rfl)
/-- The last 48 rows, the end of the partner's rows fetched. -/
abbrev hi (M : Memref sig .tc .vmem S304x512 .f32) : Memref sig .tc .vmem S48x512 .f32 :=
  M.slice (Rect.unit (s := S304x512) ![256, 0] S48x512.size inb_S304x512_S48x512_256_0) (fun _ => rfl)
/-- The four blocks fetched. -/
abbrev src0 (c : Dev nD) : Memref sig .tc .hbm S256x512 .f32 :=
  (aM.slice (Rect.unit (s := S1x512x512) (k0_off1 c) S1x256x512.size (k0_off1_inb c)) (fun _ => rfl)).squeeze S256x512 squeezes_S1x256x512_S256x512
abbrev src1 (c : Dev nD) : Memref sig .tc .hbm S48x512 .f32 :=
  (aM.slice (Rect.unit (s := S1x512x512) (k0_off2 c) S1x48x512.size (k0_off2_inb c)) (fun _ => rfl)).squeeze S48x512 squeezes_S1x48x512_S48x512
abbrev src2 (c : Dev nD) : Memref sig .tc .hbm S256x512 .f32 :=
  bM.slice (Rect.unit (s := S512x512) (k0_off3 c) S256x512.size (k0_off3_inb c)) (fun _ => rfl)
abbrev src3 (c : Dev nD) : Memref sig .tc .hbm S48x512 .f32 :=
  bM.slice (Rect.unit (s := S512x512) (k0_off4 c) S48x512.size (k0_off4_inb c)) (fun _ => rfl)

/-- A block fetched. -/
abbrev fetch {s : Shape} (src : Memref sig .tc .hbm s .f32) (d : Memref sig .tc .vmem s .f32) (i : Fin 4) (K : PT (F := F)) : PT (F := F) :=
  .op (.enqueueDma src (.here d) (.dma (cpS i)) (View.wordExact_bits rfl) (View.wordExact_bits rfl) ⟨Or.inl rfl, trivial⟩) fun _ => K
/-- The wait for it. -/
abbrev fetched {s : Shape} (src : Memref sig .tc .hbm s .f32) (d : Memref sig .tc .vmem s .f32) (i : Fin 4) (K : PT (F := F)) : PT (F := F) :=
  .op (.waitDma2 (cpS i) src d (View.wordExact_bits rfl) (View.wordExact_bits rfl)) fun _ => K

/-- The body on device `c`. -/
def bodyOn (c : Dev nD) : PT (F := F) :=
  fetch (src0 c) (lo pM) 0 <| fetch (src1 c) (hi pM) 1 <| fetch (src2 c) (lo rM) 2 <| fetch (src3 c) (hi rM) 3 <|
  .op (.semSignal ((⟨k0_dev1 c, k0_dev1_lt c⟩ : Dev nD), .tc) barrier0 (1#32 : BitVec 32).toInt) fun _ =>
  .op (.semSignal ((⟨k0_dev2 c, k0_dev2_lt c⟩ : Dev nD), .tc) barrier0 (1#32 : BitVec 32).toInt) fun _ =>
  .op (.semWait barrier0 (2#32 : BitVec 32).toInt) fun _ =>
  fetched (src0 c) (lo pM) 0 <| fetched (src1 c) (hi pM) 1 <|
  ([0, 1, 2, 3, 4, 5, 6, 7, 8] : List (Fin 9)).foldr (send c) <|
  fetched (src2 c) (lo rM) 2 <| fetched (src3 c) (hi rM) 3 <|
  ([0, 1, 2, 3, 4, 5, 6] : List (Fin 7)).foldr (fun k K => stage c (up k) (fwd c k K)) <|
  stage c 7 <| stage c 8 <|
  ([0, 1, 2, 3, 4, 5, 6, 7, 8] : List (Fin 9)).foldr (closeA c) <|
  ([0, 1, 2, 3, 4, 5, 6] : List (Fin 7)).foldr (closeB c) <| .ret ⟨⟩

/-- The body: a device asks which it is, and runs `bodyOn` there. -/
def body : PT (F := F) := .op .deviceId bodyOn

set_option maxHeartbeats 4000000 in
set_option maxRecDepth 65536 in
/-- The printed body, on the buffers and semaphores it is called with, is `body`. -/
theorem body_eq : bodyAt0 (F := F) t0_0 = body := by
  chain_rfl

end Cert.KernelIdealRun

end
-- ==== Proof.KernelIdealRun.Contents.lean ====
/-
  Who talks to whom, which rows each chunk is, and what the buffers hold.

  Device `c` is at `(px c, py c)` of the 2×2 mesh; `xn c` is its partner along x, `yn c` its partner along y. A device
  works on 304 rows of the sum: the 256 rows of its own half and the last 48 of the other half; row `r` of its scratch
  buffers is row `prow c r` of the arrays. `outR` is what it computes there and `resF` what its result holds at the end,
  the rows of its own half and the last 48 from itself, the first 208 of the other half from `yn c`.
-/
module

public import proofs.«01_k».proof.Proof.KernelIdealRun.Text
public import Idealize.ShloMosaic.Lib.ValueIdxCore

@[expose] public section

set_option maxRecDepth 16384

noncomputable section

namespace Cert.KernelIdealRun

open Cert.KernelIdeal Cert.KernelIdeal.Gen
open Idealize.ShloMosaic Idealize.ShloMosaic.TcCoe Idealize.ShloMosaic.ValueIdx

variable {F : FTy → Type} [FloatOps F]

/-! ## The mesh -/

/-- The device's y coordinate. -/
def py (c : Dev nD) : ℕ := c.val % 2
/-- The partner along x. -/
def xn (c : Dev nD) : Dev nD := ⟨(c.val + 2) % 4, Nat.mod_lt _ (by decide)⟩
/-- The partner along y. -/
def yn (c : Dev nD) : Dev nD := ⟨2 * (c.val / 2) + (1 - c.val % 2), by have : c.val < 4 := c.isLt; show _ < 4; omega⟩

theorem xn_xn (c : Dev nD) : xn (xn c) = c := by revert c; decide
theorem yn_yn (c : Dev nD) : yn (yn c) = c := by revert c; decide
theorem py_xn (c : Dev nD) : py (xn c) = py c := by revert c; decide
theorem py_yn (c : Dev nD) : py (yn c) = 1 - py c := by revert c; decide
theorem py_le (c : Dev nD) : py c ≤ 1 := by revert c; decide

theorem dev1_eq (c : Dev nD) : (⟨k0_dev1 c, k0_dev1_lt c⟩ : Dev nD) = xn c := by revert c; decide
theorem dev2_eq (c : Dev nD) : (⟨k0_dev2 c, k0_dev2_lt c⟩ : Dev nD) = yn c := by revert c; decide
theorem xDev_eq (c : Dev nD) (k : Fin 9) : xDev c k = xn c := by revert c k; decide
theorem yDev_eq (c : Dev nD) (k : Fin 7) : yDev c k = yn c := by revert c k; decide

/-! ## The rows -/

/-- The row of the arrays that row `r` of a device's scratch buffers is. -/
def prow (c : Dev nD) (r : ℕ) : ℕ := if r < 256 then 256 * py c + r else 256 * (1 - py c) + 208 + (r - 256)

theorem prow_lt (c : Dev nD) {r : ℕ} (h : r < 304) : prow c r < 512 := by
  have := py_le c; unfold prow; split <;> omega

/-- The row of the result chunk `k` starts at. -/
theorem dOff_eq (c : Dev nD) (k : Fin 9) : dOff c k = ![prow c (off k), 0] := by revert c k; decide
theorem off1_eq (c : Dev nD) : k0_off1 c = ![0, prow c 0, 0] := by revert c; decide
theorem off2_eq (c : Dev nD) : k0_off2 c = ![0, prow c 256, 0] := by revert c; decide
theorem off3_eq (c : Dev nD) : k0_off3 c = ![prow c 0, 0] := by revert c; decide
theorem off4_eq (c : Dev nD) : k0_off4 c = ![prow c 256, 0] := by revert c; decide

/-- The chunk row `r` of the scratch buffers belongs to. -/
def chunkOf (r : ℕ) : Fin 9 :=
  if r < 192 then ⟨r / 32 % 9, Nat.mod_lt _ (by decide)⟩ else if r < 208 then 6 else if r < 256 then 7 else 8

theorem chunkOf_fin : ∀ (k : Fin 9) (r : Fin (sz k)), chunkOf (off k + r.val) = k := by decide +kernel
theorem chunkOf_eq (k : Fin 9) {r : ℕ} (h : r < sz k) : chunkOf (off k + r) = k := chunkOf_fin k ⟨r, h⟩

/-- Inside a chunk rows are consecutive in the arrays too. -/
theorem prow_fin : ∀ (c : Dev nD) (k : Fin 9) (r : Fin (sz k)), prow c (off k + r.val) = prow c (off k) + r.val := by decide +kernel
theorem prow_chunk (c : Dev nD) (k : Fin 9) {r : ℕ} (h : r < sz k) : prow c (off k + r) = prow c (off k) + r := prow_fin c k ⟨r, h⟩

/-- A rank-2 multi-index is given by its coordinates. -/
theorem ext2 {n : ℕ} {i j : (Sh n).Idx} (h0 : (i 0).val = (j 0).val) (h1 : (i 1).val = (j 1).val) : i = j := by
  funext a; apply Fin.ext
  match a with
  | ⟨0, _⟩ => exact h0
  | ⟨1, _⟩ => exact h1

/-! ## What the buffers hold -/

section Values

variable (A : Dev nD → S1x512x512.Idx → Elt F .f32) (B : Dev nD → S512x512.Idx → Elt F .f32) (G : Dev nD → Vec F S1x512 .f32)

/-- Row `r`, column `j` of an array of at least `r + 1` rows; anything beyond the last one. -/
def at2 {n : ℕ} (f : (Sh n).Idx → Elt F .f32) (r : ℕ) (j : Fin 512) : Elt F .f32 :=
  if h : r < n then f (ix2 (n0 := n) (n1 := 512) ⟨r, h⟩ j) else (Scalar.ofBits .f32 0#32 : F .f32)
/-- The same of an array with a leading axis of one. -/
def at3 (f : S1x512x512.Idx → Elt F .f32) (r : ℕ) (j : Fin 512) : Elt F .f32 :=
  if h : r < 512 then f (ix3 (n0 := 1) (n1 := 512) (n2 := 512) 0 ⟨r, h⟩ j) else (Scalar.ofBits .f32 0#32 : F .f32)

/-- The device's partial sums: its own rows and the last rows of the other half. -/
def psF (c : Dev nD) : S304x512.Idx → Elt F .f32 := fun i => at3 (A c) (prow c (i 0).val) (i 1)
/-- The residual at the same rows. -/
def rsF (c : Dev nD) : S304x512.Idx → Elt F .f32 := fun i => at2 (n := 512) (B c) (prow c (i 0).val) (i 1)
/-- Chunk `k` of a buffer of 304 rows. -/
def rows (k : Fin 9) (f : S304x512.Idx → Elt F .f32) : Vec F (Sh (sz k)) .f32 :=
  fun j => f (ix2 (n0 := 304) (n1 := 512) ⟨off k + (j 0).val, Nat.lt_of_lt_of_le (Nat.add_lt_add_left (j 0).isLt _) (off_add_sz_le k)⟩ (j 1))
/-- What the device computes at chunk `k`: its partial sums, its x partner's and the residual. -/
def outC (c : Dev nD) (k : Fin 9) : Vec F (Sh (sz k)) .f32 :=
  pay (n := sz k) (rows k (psF A c)) (rows k (psF A (xn c))) (rows k (rsF B c)) (G c)
/-- Row `r` of what the device computes. -/
def outR (c : Dev nD) (r : ℕ) (j : Fin 512) : Elt F .f32 := at2 (outC A B G c (chunkOf r)) (r - off (chunkOf r)) j
/-- The buffer the device computes it in. -/
def outF (c : Dev nD) : S304x512.Idx → Elt F .f32 := fun i => outR A B G c (i 0).val (i 1)
/-- Row `r` of the device's result: computed here, or by the y partner and forwarded. -/
def resR (c : Dev nD) (r : ℕ) (j : Fin 512) : Elt F .f32 :=
  if r / 256 = py c then outR A B G c (r - 256 * py c) j
  else if r - 256 * (1 - py c) < 208 then outR A B G (yn c) (r - 256 * (1 - py c)) j
  else outR A B G c (r - 256 * (1 - py c) + 48) j
/-- The device's result. -/
def resF (c : Dev nD) : S512x512.Idx → Elt F .f32 := fun i => resR A B G c (i 0).val (i 1)

theorem outR_chunk (c : Dev nD) (k : Fin 9) {r : ℕ} (h : r < sz k) (j : Fin 512) :
    outR A B G c (off k + r) j = outC A B G c k (ix2 (n0 := sz k) (n1 := 512) ⟨r, h⟩ j) := by
  unfold outR at2
  rw [chunkOf_eq k h, Nat.add_sub_cancel_left, dif_pos h]

/-- A row the device stores at home is the row it computed. -/
theorem resR_own (c : Dev nD) {r : ℕ} (h : r < 304) (j : Fin 512) : resR A B G c (prow c r) j = outR A B G c r j := by
  have hy := py_le c
  unfold resR prow
  by_cases hr : r < 256
  · rw [if_pos hr, if_pos (by omega), Nat.add_sub_cancel_left]
  · rw [if_neg hr, if_neg (by omega), if_neg (by omega)]
    congr 1; omega

/-- A row forwarded by the y partner is the row that one computed. -/
theorem resR_forwarded (c : Dev nD) {r : ℕ} (h : r < 208) (j : Fin 512) : resR A B G c (prow (yn c) r) j = outR A B G (yn c) r j := by
  have hy := py_le c
  unfold resR prow
  rw [if_pos (show r < 256 by omega), py_yn, if_neg (by omega), Nat.add_sub_cancel_left, if_pos h]

end Values

/-! ## Reading the chunks -/

/-- Chunk `k` of a scratch buffer read is the buffer's rows. -/
theorem read_part_p (k : Fin 9) (f : S304x512.Idx → Elt F .f32) : (part pM k).view.read (Elt F) f = rows k f :=
  funext fun j => congrArg f (ext2 (show off k + 1 * (j 0).val = off k + (j 0).val by omega) (show 0 + 1 * (j 1).val = (j 1).val by omega))
theorem read_part_r (k : Fin 9) (f : S304x512.Idx → Elt F .f32) : (part rM k).view.read (Elt F) f = rows k f :=
  read_part_p k f
theorem read_part_c (k : Fin 9) (f : S304x512.Idx → Elt F .f32) : (part cM k).view.read (Elt F) f = rows k f :=
  read_part_p k f
theorem read_part_u (k : Fin 9) (f : S304x512.Idx → Elt F .f32) : (part uM k).view.read (Elt F) f = rows k f :=
  read_part_p k f

section Reads

variable (A : Dev nD → S1x512x512.Idx → Elt F .f32) (B : Dev nD → S512x512.Idx → Elt F .f32) (G : Dev nD → Vec F S1x512 .f32)

/-- A chunk of the buffer of results is what is computed at that chunk. -/
theorem rows_outF (c : Dev nD) (k : Fin 9) : rows k (outF A B G c) = outC A B G c k :=
  funext fun j => (outR_chunk A B G c k (j 0).isLt (j 1)).trans (congrArg _ (ext2 rfl rfl))

theorem read_dst_apply (c : Dev nD) (k : Fin 9) (f : S512x512.Idx → Elt F .f32) (j : (Sh (sz k)).Idx) :
    (dst c k).view.read (Elt F) f j = at2 (n := 512) f (prow c (off k + (j 0).val)) (j 1) := by
  have hj : (j 0).val < sz k := (j 0).isLt
  have hr : off k + (j 0).val < 304 := Nat.lt_of_lt_of_le (Nat.add_lt_add_left hj _) (off_add_sz_le k)
  unfold at2
  rw [dif_pos (prow_lt c hr)]
  refine congrArg f (ext2 ?_ ?_)
  · show dOff c k 0 + 1 * (j 0).val = prow c (off k + (j 0).val)
    rw [prow_chunk c k hj, dOff_eq]; show prow c (off k) + _ = _; omega
  · show dOff c k 1 + 1 * (j 1).val = (j 1).val
    rw [dOff_eq]; show 0 + _ = _; omega

theorem at2_resF (c : Dev nD) {r : ℕ} (h : r < 512) (j : Fin 512) : at2 (n := 512) (resF A B G c) r j = resR A B G c r j := dif_pos h

/-- A device's own chunk of its result is what it computed. -/
theorem read_dst_own (c : Dev nD) (k : Fin 9) : (dst c k).view.read (Elt F) (resF A B G c) = outC A B G c k := by
  funext j
  have hj : (j 0).val < sz k := (j 0).isLt
  have hr : off k + (j 0).val < 304 := Nat.lt_of_lt_of_le (Nat.add_lt_add_left hj _) (off_add_sz_le k)
  refine (read_dst_apply c k _ j).trans ((at2_resF A B G c (prow_lt c hr) _).trans ((resR_own A B G c hr _).trans
    ((outR_chunk A B G c k hj _).trans (congrArg _ (ext2 rfl rfl)))))

theorem up_row (k : Fin 7) {r : ℕ} (h : r < sz (up k)) : off (up k) + r < 208 := by
  have : off (up k) + sz (up k) ≤ 208 := by clear h; revert k; decide
  omega

/-- The y partner's chunk of a device's result is what the partner computed. -/
theorem read_dst_forwarded (c : Dev nD) (k : Fin 7) :
    (dst (yn c) (up k)).view.read (Elt F) (resF A B G c) = outC A B G (yn c) (up k) := by
  funext j
  have hj : (j 0).val < sz (up k) := (j 0).isLt
  have hr := up_row k hj
  refine (read_dst_apply (yn c) (up k) _ j).trans ((at2_resF A B G c (prow_lt _ (by omega)) _).trans ((resR_forwarded A B G c hr _).trans
    ((outR_chunk A B G (yn c) (up k) hj _).trans (congrArg _ (ext2 rfl rfl)))))

/-! ## The four fetches bring the rows -/

theorem emb_src {n : ℕ} (off : Fin 3 → ℕ) (inb) (h : (Sh n).numel = (⟨3, ![1, n, 512]⟩ : Shape).numel) (j : (Sh n).Idx) :
    ∀ a, ((Rect.unit (s := S1x512x512) off (⟨3, ![1, n, 512]⟩ : Shape).size inb).emb (Shape.reshapeEquiv h j) a).val
      = off a + (![0, (j 0).val, (j 1).val] : Fin 3 → ℕ) a := by
  intro a
  rw [Rect.emb_apply, Shape.reshapeEquiv_cons_one h j]
  match a with
  | ⟨0, _⟩ => show off 0 + 1 * 0 = off 0 + 0; omega
  | ⟨1, _⟩ => show off 1 + 1 * (j 0).val = off 1 + (j 0).val; omega
  | ⟨2, _⟩ => show off 2 + 1 * (j 1).val = off 2 + (j 1).val; omega

theorem at3_eq (f : S1x512x512.Idx → Elt F .f32) (i : S1x512x512.Idx) {r : ℕ} {j : Fin 512} (h1 : (i 1).val = r) (h2 : (i 2).val = j.val) :
    f i = at3 f r j := by
  have hr : r < 512 := h1 ▸ (i 1).isLt
  unfold at3
  rw [dif_pos hr]
  congr 1
  funext a; apply Fin.ext
  match a with
  | ⟨0, _⟩ => have := (i 0).isLt; show (i 0).val = 0; change (i 0).val < 1 at this; omega
  | ⟨1, _⟩ => exact h1
  | ⟨2, _⟩ => exact h2

theorem at2_eq {n : ℕ} (f : (Sh n).Idx → Elt F .f32) (i : (Sh n).Idx) {r : ℕ} {j : Fin 512} (h0 : (i 0).val = r) (h1 : (i 1).val = j.val) :
    f i = at2 f r j := by
  have hr : r < n := h0 ▸ (i 0).isLt
  unfold at2
  rw [dif_pos hr]
  exact congrArg f (ext2 h0 h1)

theorem fetch0 (c : Dev nD) : (lo pM).view.read (Elt F) (psF A c) = (src0 c).view.read (Elt F) (A c) := by
  funext j
  have hj : (j 0).val < 256 := (j 0).isLt
  symm
  refine (at3_eq (A c) _ (r := prow c (j 0).val) (j := j 1) ?_ ?_).trans ?_
  · refine (emb_src (k0_off1 c) _ _ j 1).trans ?_
    rw [off1_eq]; show prow c 0 + (j 0).val = _; unfold prow; split_ifs <;> omega
  · refine (emb_src (k0_off1 c) _ _ j 2).trans ?_
    rw [off1_eq]; show 0 + (j 1).val = _; omega
  · show at3 (A c) (prow c (j 0).val) (j 1) = at3 (A c) (prow c (0 + 1 * (j 0).val)) _
    congr 1
    · congr 1; omega
    · exact Fin.ext (show (j 1).val = 0 + 1 * (j 1).val by omega)

theorem fetch1 (c : Dev nD) : (hi pM).view.read (Elt F) (psF A c) = (src1 c).view.read (Elt F) (A c) := by
  funext j
  have hj : (j 0).val < 48 := (j 0).isLt
  symm
  refine (at3_eq (A c) _ (r := prow c (256 + (j 0).val)) (j := j 1) ?_ ?_).trans ?_
  · refine (emb_src (k0_off2 c) _ _ j 1).trans ?_
    rw [off2_eq]; show prow c 256 + (j 0).val = _; unfold prow; split_ifs <;> omega
  · refine (emb_src (k0_off2 c) _ _ j 2).trans ?_
    rw [off2_eq]; show 0 + (j 1).val = _; omega
  · show at3 (A c) (prow c (256 + (j 0).val)) (j 1) = at3 (A c) (prow c (256 + 1 * (j 0).val)) _
    congr 1
    · congr 1; omega
    · exact Fin.ext (show (j 1).val = 0 + 1 * (j 1).val by omega)

theorem fetch2 (c : Dev nD) : (lo rM).view.read (Elt F) (rsF B c) = (src2 c).view.read (Elt F) (B c) := by
  funext j
  have hj : (j 0).val < 256 := (j 0).isLt
  symm
  refine (at2_eq (n := 512) (B c) _ (r := prow c (j 0).val) (j := j 1) ?_ ?_).trans ?_
  · show k0_off3 c 0 + 1 * (j 0).val = _
    rw [off3_eq]; show prow c 0 + 1 * (j 0).val = _; unfold prow; split_ifs <;> omega
  · show k0_off3 c 1 + 1 * (j 1).val = _
    rw [off3_eq]; show 0 + 1 * (j 1).val = _; omega
  · show at2 (B c) (prow c (j 0).val) (j 1) = at2 (B c) (prow c (0 + 1 * (j 0).val)) _
    congr 1
    · congr 1; omega
    · exact Fin.ext (show (j 1).val = 0 + 1 * (j 1).val by omega)

theorem fetch3 (c : Dev nD) : (hi rM).view.read (Elt F) (rsF B c) = (src3 c).view.read (Elt F) (B c) := by
  funext j
  have hj : (j 0).val < 48 := (j 0).isLt
  symm
  refine (at2_eq (n := 512) (B c) _ (r := prow c (256 + (j 0).val)) (j := j 1) ?_ ?_).trans ?_
  · show k0_off4 c 0 + 1 * (j 0).val = _
    rw [off4_eq]; show prow c 256 + 1 * (j 0).val = _; unfold prow; split_ifs <;> omega
  · show k0_off4 c 1 + 1 * (j 1).val = _
    rw [off4_eq]; show 0 + 1 * (j 1).val = _; omega
  · show at2 (B c) (prow c (256 + (j 0).val)) (j 1) = at2 (B c) (prow c (256 + 1 * (j 0).val)) _
    congr 1
    · congr 1; omega
    · exact Fin.ext (show (j 1).val = 0 + 1 * (j 1).val by omega)

end Reads

/-- A transfer leaves the target of the copy agreeing with any contents that read there as the source does. -/
theorem write_read {κ : Kind} {sp : Space} {s : Shape} {e : EltTy} (v : View sig κ sp s e) {Val : EltTy → Type} (f g : v.ty.Contents Val)
    {w : s.Idx → Val e} (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

end Cert.KernelIdealRun

end
-- ==== Proof.KernelIdealRun.Schedule.lean ====
/-
  The protocol: every semaphore cell, what it counts, and what it hands over.

  Each of a device's cells has one round. The barrier is raised once by the partner along x, which hands over its landing
  buffer chunk by chunk, and once by the partner along y, which hands over the rows of its result that this device
  writes. Every other cell is raised by one transfer and hands its owner, when the owner waits, what the transfer wrote
  and the share of what it read:

    cell                       raised by              hands over
    `cp i` (fetch)             the device             rows of an argument in scratch; the share of the argument read
    `st k` (store at home)     the device             the device's chunk `k` of its result; half of the computed chunk
    `sa k` (sent along x)      the device             half of its partial sums at chunk `k`
    `ra k` (come along x)      the partner along x    the partner's partial sums at chunk `k`
    `sb k` (forwarded)         the device             the other half of the computed chunk
    `rb k` (come along y)      the partner along y    the partner's chunk `k` of the device's result
-/
module

public import proofs.«01_k».proof.Proof.KernelIdealRun.Contents
public import Idealize.ShloMosaic.Lib.Pipeline.BigSepL

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging cells' and the protocol's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's cells. -/
inductive Cell
  | bar
  | cp (i : Fin 4)
  | st (k : Fin 9)
  | sa (k : Fin 9)
  | ra (k : Fin 9)
  | sb (k : Fin 7)
  | rb (k : Fin 7)
  deriving DecidableEq

namespace Cell

/-- The semaphore of a cell. -/
def sem : Cell → SemLoc sig
  | bar => .reg barrier0
  | cp i => .dma (cpS i)
  | st k => .dma (stS k)
  | sa k => .dma (saS k)
  | ra k => .dma (raS k)
  | sb k => .dma (sbS k)
  | rb k => .dma (rbS k)

/-- The cell of a semaphore. -/
def of : SemLoc sig → Option Cell
  | .reg s => if s = barrier0 then some bar else none
  | .dma q =>
    if q.val = 0 then none
    else if q.val < 5 then some (cp ⟨(q.val - 1) % 4, Nat.mod_lt _ (by decide)⟩)
    else if q.val < 14 then some (st ⟨(q.val - 5) % 9, Nat.mod_lt _ (by decide)⟩)
    else if q.val < 23 then some (sa ⟨(q.val - 14) % 9, Nat.mod_lt _ (by decide)⟩)
    else if q.val < 32 then some (ra ⟨(q.val - 23) % 9, Nat.mod_lt _ (by decide)⟩)
    else if q.val < 39 then some (sb ⟨(q.val - 32) % 7, Nat.mod_lt _ (by decide)⟩)
    else some (rb ⟨(q.val - 39) % 7, Nat.mod_lt _ (by decide)⟩)

theorem of_sem (κ : Cell) : of κ.sem = some κ := by
  cases κ with
  | bar => rfl
  | cp i => revert i; decide
  | st k => revert k; decide
  | sa k => revert k; decide
  | ra k => revert k; decide
  | sb k => revert k; decide
  | rb k => revert k; decide

theorem sem_injective : Function.Injective sem := fun a b h =>
  Option.some.inj ((of_sem a).symm.trans ((congrArg of h).trans (of_sem b)))

end Cell

/-- Chunk numbers, in the order the kernel takes them. -/
abbrev l9 : List (Fin 9) := [0, 1, 2, 3, 4, 5, 6, 7, 8]
abbrev l7 : List (Fin 7) := [0, 1, 2, 3, 4, 5, 6]
abbrev l4 : List (Fin 4) := [0, 1, 2, 3]

/-- A device's cells other than the barrier. -/
def Cell.own : List Cell := l4.map .cp ++ (l9.map .st ++ (l9.map .sa ++ (l9.map .ra ++ (l7.map .sb ++ l7.map .rb))))
/-- All of a device's cells. -/
def Cell.all : List Cell := .bar :: Cell.own

theorem Cell.all_nodup : Cell.all.Nodup := by decide
theorem Cell.mem_all (κ : Cell) : κ ∈ Cell.all := by
  cases κ with
  | bar => decide
  | cp i => revert i; decide
  | st k => revert k; decide
  | sa k => revert k; decide
  | ra k => revert k; decide
  | sb k => revert k; decide
  | rb k => revert k; decide

instance : Fintype Cell := ⟨⟨Cell.all, Cell.all_nodup⟩, Cell.mem_all⟩

/-- Device `c`'s cell `κ`. -/
abbrev cell (c : Dev nD) (κ : Cell) : GSem nD τ sig := ((c : Thread nD τ), κ.sem)

theorem cell_injective : Function.Injective fun p : Dev nD × Cell => cell p.1 p.2 := fun p q h => by
  have h1 : p.1 = q.1 := congrArg (fun g : GSem nD τ sig => g.1.1) h
  exact Prod.ext h1 (Cell.sem_injective (congrArg Prod.snd h))

/-! ## The amounts -/

/-- What a transfer of chunk `k` counts. -/
def crd (k : Fin 9) : ℕ := (part cM k).view.dmaCredit
theorem crd_pos (k : Fin 9) : 0 < crd k := View.dmaCredit_pos _ (numel_pos (sz_pos k))
/-- What a fetch counts. -/
def crdF : Fin 4 → ℕ
  | 0 => (lo pM).view.dmaCredit | 1 => (hi pM).view.dmaCredit | 2 => (lo rM).view.dmaCredit | 3 => (hi rM).view.dmaCredit
theorem crdF_pos (i : Fin 4) : 0 < crdF i := by
  match i with
  | 0 => exact View.dmaCredit_pos _ (numel_pos (by decide))
  | 1 => exact View.dmaCredit_pos _ (numel_pos (by decide))
  | 2 => exact View.dmaCredit_pos _ (numel_pos (by decide))
  | 3 => exact View.dmaCredit_pos _ (numel_pos (by decide))

/-- What one raise of a cell counts. -/
def Cell.amt : Cell → ℕ
  | bar => 1
  | cp i => crdF i
  | st k => crd k
  | sa k => crd k
  | ra k => crd k
  | sb k => crd (up k)
  | rb k => crd (up k)
theorem Cell.amt_pos (κ : Cell) : 0 < κ.amt := by
  cases κ with
  | bar => exact Nat.one_pos
  | cp i => exact crdF_pos i
  | st k => exact crd_pos k
  | sa k => exact crd_pos k
  | ra k => exact crd_pos k
  | sb k => exact crd_pos _
  | rb k => exact crd_pos _

/-! ## What the cells hand over -/

/-- Device `c`'s elements under `M`, at the share `q`, holding `f`. -/
abbrev pt (c : Dev nD) {sp : Space} {s : Shape} {e : EltTy} (M : Memref sig .tc sp s e) (q : PosShare TreeShare)
    (f : Buf (Elt F) (M.view.loc (c : Thread nD τ))) : sProp 𝕄 :=
  M.view.loc (c : Thread nD τ) ↦[M.view.set]{q} f

section Sched

variable (A : Dev nD → S1x512x512.Idx → Elt F .f32) (B : Dev nD → S512x512.Idx → Elt F .f32) (G : Dev nD → Vec F S1x512 .f32)

/-- What the fetches hand over: the rows, and the share of the argument they read. -/
def cpPay (c : Dev nD) : Fin 4 → sProp 𝕄
  | 0 => iprop(pt c (lo pM) fullShare (psF A c) ∗ pt c (src0 c) fullShare.left (A c))
  | 1 => iprop(pt c (hi pM) fullShare (psF A c) ∗ pt c (src1 c) fullShare.right (A c))
  | 2 => iprop(pt c (lo rM) fullShare (rsF B c) ∗ pt c (src2 c) fullShare.left (B c))
  | 3 => iprop(pt c (hi rM) fullShare (rsF B c) ∗ pt c (src3 c) fullShare.right (B c))
/-- The landing buffer of `d`, chunk `k`, and that `d` is ready for it. -/
def landX (d : Dev nD) (k : Fin 9) : sProp 𝕄 := iprop((∃ f, pt d (part cM k) fullShare f) ∗ reached ER (cell d (.ra k)) 0)
/-- The rows of `d`'s result that `c` writes, chunk `k`, and that `d` is ready for them. -/
def landY (c d : Dev nD) (k : Fin 7) : sProp 𝕄 := iprop((∃ f, pt d (dst c (up k)) fullShare f) ∗ reached ER (cell d (.rb k)) 0)

/-- What device `c`'s cell `κ` hands over; the barrier's raise `false` is the x partner's, `true` the y partner's. -/
def pay₀ (c : Dev nD) : Cell → Bool → sProp 𝕄
  | .bar, false => bigSepL l9 (landX (xn c))
  | .bar, true => bigSepL l7 (landY c (yn c))
  | .cp i, _ => cpPay A B c i
  | .st k, _ => iprop(pt c (dst c k) fullShare (resF A B G c) ∗ pt c (part uM k) fullShare.left (outF A B G c))
  | .sa k, _ => pt c (part pM k) fullShare.right (psF A c)
  | .ra k, _ => pt c (part cM k) fullShare (psF A (xn c))
  | .sb k, _ => pt c (part uM (up k)) fullShare.right (outF A B G c)
  | .rb k, _ => pt c (dst (yn c) (up k)) fullShare (resF A B G c)

/-- The schedule: one round per cell; two raises of a barrier, one of every other cell. -/
def Rd : Rounds.Schedule (GSem nD τ sig) Bool 𝕄 where
  duties g r := if r = 0 ∧ g.1.2 = .tc then (match Cell.of g.2 with | some .bar => Finset.univ | some _ => {false} | none => ∅) else ∅
  unitless _ := False
  amount g _ _ := match Cell.of g.2 with | some κ => κ.amt | none => 1
  payload g _ d := match Cell.of g.2 with | some κ => pay₀ A B G g.1.1 κ d | none => iprop(emp)
  amount_pos g _ _ _ := by
    split
    · exact Cell.amt_pos _
    · exact Nat.one_pos

instance bigSepL_storable {I : Type} (Φ : I → sProp 𝕄) [∀ i, BI.Storable (upEmb : UEmb _ 𝕄) (Φ i)] :
    ∀ l : List I, BI.Storable (upEmb : UEmb _ 𝕄) (bigSepL l Φ)
  | [] => by rw [bigSepL_nil]; exact (inferInstance : BI.Storable (upEmb : UEmb _ 𝕄) iprop(emp))
  | i :: l => by
    rw [bigSepL_cons']
    have := bigSepL_storable Φ l
    infer_instance

instance landX_storable (d : Dev nD) (k : Fin 9) : BI.Storable (upEmb : UEmb _ 𝕄) (landX (F := F) d k) := by unfold landX; infer_instance
instance landY_storable (c d : Dev nD) (k : Fin 7) : BI.Storable (upEmb : UEmb _ 𝕄) (landY (F := F) c d k) := by unfold landY; infer_instance

instance pay₀_storable (c : Dev nD) (κ : Cell) (d : Bool) : BI.Storable (upEmb : UEmb _ 𝕄) (pay₀ A B G c κ d) := by
  cases κ with
  | bar => cases d <;> (unfold pay₀; infer_instance)
  | cp i => revert i; unfold pay₀ cpPay; intro i; match i with | 0 | 1 | 2 | 3 => infer_instance
  | st k => unfold pay₀; infer_instance
  | sa k => unfold pay₀; infer_instance
  | ra k => unfold pay₀; infer_instance
  | sb k => unfold pay₀; infer_instance
  | rb k => unfold pay₀; infer_instance

instance Rd_storable (g : GSem nD τ sig) (r : ℕ) (d : Bool) : BI.Storable (upEmb : UEmb _ 𝕄) ((Rd A B G).payload g r d) := by
  show BI.Storable (upEmb : UEmb _ 𝕄) (match Cell.of g.2 with | some κ => pay₀ A B G g.1.1 κ d | none => iprop(emp))
  split <;> infer_instance

theorem duties_bar (c : Dev nD) : (Rd A B G).duties (cell c .bar) 0 = Finset.univ := rfl
theorem duties_of (c : Dev nD) (κ : Cell) (h : κ ≠ .bar) : (Rd A B G).duties (cell c κ) 0 = {false} := by
  dsimp only [Rd]
  rw [if_pos ⟨rfl, rfl⟩, Cell.of_sem]
  cases κ with
  | bar => exact absurd rfl h
  | cp i => rfl
  | st k => rfl
  | sa k => rfl
  | ra k => rfl
  | sb k => rfl
  | rb k => rfl
theorem duties_later (g : GSem nD τ sig) : ∀ r, 1 ≤ r → (Rd A B G).duties g r = ∅ := fun r hr => by
  dsimp only [Rd]; rw [if_neg fun h => by omega]
theorem amount_of (c : Dev nD) (κ : Cell) (d : Bool) : (Rd A B G).amount (cell c κ) 0 d = κ.amt := by
  dsimp only [Rd]; rw [Cell.of_sem]
theorem payload_of (c : Dev nD) (κ : Cell) (d : Bool) : (Rd A B G).payload (cell c κ) 0 d = pay₀ A B G c κ d := by
  dsimp only [Rd]; rw [Cell.of_sem]
theorem expect_bar (c : Dev nD) : (Rd A B G).expect (cell c .bar) 0 = 2 := by
  unfold Schedule.expect Schedule.amountOf
  rw [duties_bar, Finset.sum_congr rfl fun d _ => amount_of A B G c .bar d]; rfl
theorem expect_of (c : Dev nD) (κ : Cell) (h : κ ≠ .bar) : (Rd A B G).expect (cell c κ) 0 = κ.amt := by
  unfold Schedule.expect Schedule.amountOf
  rw [duties_of A B G c κ h, Finset.sum_singleton, amount_of]
theorem rest_bar (c : Dev nD) : bigSep ((Rd A B G).duties (cell c .bar) 0 \ ∅) (fun d => (Rd A B G).payload (cell c .bar) 0 d)
    = iprop(bigSepL l9 (landX (xn c)) ∗ bigSepL l7 (landY c (yn c))) := by
  rw [Finset.sdiff_empty, duties_bar, bigSep_univ_eq_bigSepL [false, true] (by decide) (by decide), bigSepL_cons_cons,
    bigSepL_singleton, payload_of, payload_of]
  rfl
theorem rest_of (c : Dev nD) (κ : Cell) (h : κ ≠ .bar) :
    bigSep ((Rd A B G).duties (cell c κ) 0 \ ∅) (fun d => (Rd A B G).payload (cell c κ) 0 d) = pay₀ A B G c κ false := by
  rw [Finset.sdiff_empty, duties_of A B G c κ h, bigSep_singleton, payload_of]

end Sched

/-! ## What a device owes, and the order of the waits -/

/-- Every cell of a device's own thread is counted, at one index. -/
def idx (g : GSem nD τ sig) : Finset Unit := Finset.univ.filter fun _ => g.1.2 = .tc
/-- The order: the fetches and what a device raises itself first, then the barriers, then what comes along x, then along y. -/
def lv (g : GSem nD τ sig) (_ : Unit) : ℕ :=
  match Cell.of g.2 with | some .bar => 1 | some (.ra _) => 2 | some (.rb _) => 3 | _ => 0

theorem mem_idx {g : GSem nD τ sig} (u : Unit) (h : g.1.2 = .tc) : u ∈ idx g := Finset.mem_filter.mpr ⟨Finset.mem_univ _, h⟩
theorem idx_of_ne (g : GSem nD τ sig) (h : g.1.2 ≠ .tc) : idx g = ∅ := Finset.filter_eq_empty_iff.mpr fun _ _ => h

/-- What device `c` owes its x partner: the chunks of `l`. -/
def owesX (c : Dev nD) (l : List (Fin 9)) : CellTallies nD τ sig Unit := (l.map fun k => tallyAt (cell (xn c) (.ra k)) () (crd k)).sum
/-- What device `c` owes its y partner: the chunks of `l`. -/
def owesY (c : Dev nD) (l : List (Fin 7)) : CellTallies nD τ sig Unit := (l.map fun k => tallyAt (cell (yn c) (.rb k)) () (crd (up k))).sum
/-- What device `c` owes at launch: all the chunks, and a raise of either partner's barrier. -/
def owesAll (c : Dev nD) : CellTallies nD τ sig Unit :=
  owesY c l7 + owesX c l9 + tallyAt (cell (yn c) .bar) () 1 + tallyAt (cell (xn c) .bar) () 1

/-- Everything owed is of a level above `n`. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
theorem Above.zero (n : ℕ) : Above n 0 := fun g u hg => absurd hg (Nat.lt_irrefl 0)
theorem Above.tally {n : ℕ} (c : Dev nD) (κ : Cell) (a : ℕ) (h : n < lv (cell c κ) ()) : Above n (tallyAt (cell c κ) () a) := fun g u hg => by
  rw [tallyAt_apply] at hg
  split at hg
  · next hh => obtain ⟨rfl, -⟩ := hh; exact ⟨rfl, h⟩
  · exact absurd hg (Nat.lt_irrefl 0)
theorem Above.sum {n : ℕ} : ∀ l : List (CellTallies nD τ sig Unit), (∀ O ∈ l, Above n O) → Above n l.sum
  | [], _ => by rw [List.sum_nil]; exact Above.zero n
  | O :: l, h => by
    rw [List.sum_cons]
    exact (h O (List.mem_cons_self ..)).add (Above.sum l fun O' hO' => h O' (List.mem_cons_of_mem _ hO'))

theorem lv_bar (c : Dev nD) : lv (cell c .bar) () = 1 := rfl
theorem lv_ra (c : Dev nD) (k : Fin 9) : lv (cell c (.ra k)) () = 2 := by unfold lv; rw [Cell.of_sem]
theorem lv_rb (c : Dev nD) (k : Fin 7) : lv (cell c (.rb k)) () = 3 := by unfold lv; rw [Cell.of_sem]

theorem owesX_above (c : Dev nD) (l : List (Fin 9)) {n : ℕ} (h : n < 2) : Above n (owesX c l) := Above.sum _ fun O hO => by
  obtain ⟨k, -, rfl⟩ := List.mem_map.mp hO
  exact Above.tally _ _ _ (by rw [lv_ra]; exact h)
theorem owesY_above (c : Dev nD) (l : List (Fin 7)) {n : ℕ} (h : n < 3) : Above n (owesY c l) := Above.sum _ fun O hO => by
  obtain ⟨k, -, rfl⟩ := List.mem_map.mp hO
  exact Above.tally _ _ _ (by rw [lv_rb]; exact h)
theorem owesAll_above (c : Dev nD) : Above 0 (owesAll c) :=
  (((owesY_above c l7 (by decide)).add (owesX_above c l9 (by decide))).add (Above.tally _ _ _ (by rw [lv_bar]; decide))).add
    (Above.tally _ _ _ (by rw [lv_bar]; decide))

/-- A wait for a cell below everything owed. -/
theorem mayWait_of (c : Dev nD) (sm : SemLoc sig) {n : ℕ} (hn : lv ((c : Thread nD τ), sm) () ≤ n) {O : CellTallies nD τ sig Unit} (h : Above n O) :
    (levAts idx lv : sProp 𝕄) ⊢ MayWait (c : Thread nD τ) sm () O :=
  MayOwe.of_cut (L := idx) (lev := lv) n (fun p hp => by rw [Finset.mem_singleton.mp hp]; exact mem_idx _ rfl)
    (fun g u hg => mem_idx _ (h g u hg).1) (fun p hp => by rw [Finset.mem_singleton.mp hp]; exact hn) (fun g u hg => (h g u hg).2)

end Cert.KernelIdealRun

end
-- ==== Proof.KernelIdealRun.Steps.lean ====
/-
  The steps of the body, each as one rule: an exchange along x, a chunk's reduction, a forward along y, the closing
  waits. Each states what it takes of chunk `k` and what it leaves; `loop` carries a step through a list of chunks.
-/
module

public import proofs.«01_k».proof.Proof.KernelIdealRun.Schedule
public import Idealize.ShloMosaic.Lib.Tactic

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The program `p` on device `c` is safe and ends in `Q`. -/
abbrev runs (c : Dev nD) (p : PT (F := F)) (Q : PUnit → sProp 𝕄) : sProp 𝕄 :=
  wp frame (wpE (defs₀ (F := F)) 𝒱₀ (c : Thread nD τ) none) Set.univ p Q

/-- A step carried through a list: `S` is what it passes on, `P` what it takes of a member, `R` what it leaves of it. -/
theorem loop {I : Type} (c : Dev nD) (X : sProp 𝕄) [BI.Persistent X] (step : I → PT (F := F) → PT (F := F)) (S : List I → sProp 𝕄)
    (P R : I → sProp 𝕄) (Q : PUnit → sProp 𝕄)
    (h : ∀ (k : I) (l : List I) (K : PT (F := F)), iprop(X ∗ S (k :: l) ∗ P k ∗ (S l ∗ R k -∗ runs c K Q)) ⊢ runs c (step k K) Q) :
    ∀ (l : List I) (K : PT (F := F)), iprop(X ∗ S l ∗ bigSepL l P ∗ (S [] ∗ bigSepL l R -∗ runs c K Q)) ⊢ runs c (l.foldr step K) Q
  | [], K => by
    rw [bigSepL_nil, bigSepL_nil]
    iintro ⟨-, HS, -, HK⟩
    iapply HK
    isplitl [HS]; · iexact HS
    iempintro
  | k :: l, K => by
    rw [bigSepL_cons', bigSepL_cons', List.foldr_cons]
    iintro ⟨#HX, HS, ⟨HP, HPl⟩, HK⟩
    iapply (h k l _)
    isplitr; · iexact HX
    isplitl [HS]; · iexact HS
    isplitl [HP]; · iexact HP
    iintro ⟨HS, HR⟩
    iapply (loop c X step S P R Q h l K)
    isplitr; · iexact HX
    isplitl [HS]; · iexact HS
    isplitl [HPl]; · iexact HPl
    iintro ⟨HS, HRl⟩
    iapply HK
    isplitl [HS]; · iexact HS
    isplitl [HR]; · iexact HR
    iexact HRl

/-! ## What every step may consult -/

theorem bigSep_at {I : Type} [DecidableEq I] {s : Finset I} {i : I} (h : i ∈ s) {Φ : I → sProp 𝕄} : bigSep s Φ ⊢ Φ i := bigSep_elim h

section Steps

variable (A : Dev nD → S1x512x512.Idx → Elt F .f32) (B : Dev nD → S512x512.Idx → Elt F .f32) (G : Dev nD → Vec F S1x512 .f32)
variable (N : GSem nD τ sig → ℕ)

/-- Every cell's invariant, under its name, and that every barrier is open. -/
def recs : sProp 𝕄 :=
  iprop((bigSep Finset.univ fun p : Dev nD × Cell => cellInv ER (Rd A B G) (N (cell p.1 p.2)) (cell p.1 p.2))
    ∗ bigSep Finset.univ fun d : Dev nD => reached ER (cell d .bar) 0)

instance recs_persistent : BI.Persistent (recs A B G N) := by unfold recs; infer_instance

/-- With the order of the waits, and that the device's own cells are open. -/
def ctx (c : Dev nD) : sProp 𝕄 :=
  iprop(recs A B G N ∗ levAts idx lv ∗ bigSep (Cell.own.toFinset) fun κ => reached ER (cell c κ) 0)

instance ctx_persistent (c : Dev nD) : BI.Persistent (ctx A B G N c) := by unfold ctx; infer_instance

theorem ctx_inv (c d : Dev nD) (κ : Cell) : ctx A B G N c ⊢ cellInv ER (Rd A B G) (N (cell d κ)) (cell d κ) := by
  unfold ctx recs
  iintro ⟨⟨H, -⟩, -⟩
  iapply (bigSep_at (Finset.mem_univ ((d, κ) : Dev nD × Cell)) (Φ := fun p : Dev nD × Cell => (cellInv ER (Rd A B G) (N (cell p.1 p.2)) (cell p.1 p.2) : sProp 𝕄)))
  iexact H
theorem ctx_bar (c d : Dev nD) : ctx A B G N c ⊢ reached ER (cell d .bar) 0 := by
  unfold ctx recs
  iintro ⟨⟨-, H⟩, -⟩
  iapply (bigSep_at (Finset.mem_univ d) (Φ := fun d : Dev nD => (reached ER (cell d .bar) 0 : sProp 𝕄)))
  iexact H
theorem mem_own {κ : Cell} (h : κ ≠ .bar) : κ ∈ Cell.own.toFinset := by
  rcases List.mem_cons.mp (Cell.mem_all κ) with rfl | h'
  · exact absurd rfl h
  · exact List.mem_toFinset.mpr h'
theorem ctx_own (c : Dev nD) {κ : Cell} (h : κ ≠ .bar) : ctx A B G N c ⊢ reached ER (cell c κ) 0 := by
  unfold ctx
  iintro ⟨-, -, H⟩
  iapply (bigSep_at (mem_own h) (Φ := fun κ : Cell => (reached ER (cell c κ) 0 : sProp 𝕄)))
  iexact H
theorem ctx_lev (c : Dev nD) : ctx A B G N c ⊢ (levAts idx lv : sProp 𝕄) := by
  unfold ctx
  iintro ⟨-, H, -⟩
  iexact H

/-- What device `c` still owes, whatever it has waited for. -/
def owing (c : Dev nD) (O : CellTallies nD τ sig Unit) : sProp 𝕄 := iprop(∃ W, owes (c : Thread nD τ) O W)

/-- Device `c`'s position on a cell it has not waited for. -/
abbrev fresh (c : Dev nD) (κ : Cell) : sProp 𝕄 := atPos ER (cell c κ) 0 ∅ 0
/-- The duty of the transfer that raises the cell. -/
abbrev duty (c : Dev nD) (κ : Cell) : sProp 𝕄 := dutyTok ER (cell c κ) 0 false
/-- The right to wait for the cell's one raise. -/
abbrev due (c : Dev nD) (κ : Cell) : sProp 𝕄 := cred (tallyAt (cell c κ) () κ.amt)

/-- The wait for one of the device's transfers: it brings what the transfer hands over, and the cell's counter, at zero. -/
theorem wait_step (c : Dev nD) {κ : Cell} (hκ : κ ≠ .bar) {q : DmaSem sig} (hq : κ.sem = .dma q) {sp sp' : Space} {s s' : Shape} {e e' : EltTy}
    {src : Memref sig .tc sp' s' e'} {dst : Memref sig .tc sp s e} {h₁ : src.view.WordExact} {h₂ : dst.view.WordExact}
    (hN : dst.view.dmaCredit = κ.amt) {n : ℕ} (hn : lv (cell c κ) () ≤ n) {O : CellTallies nD τ sig Unit} (hO : Above n O)
    (K : PT (F := F)) (Q : PUnit → sProp 𝕄) :
    iprop(ctx A B G N c ∗ owing c O ∗ due c κ ∗ fresh c κ ∗ (owing c O ∗ pay₀ A B G c κ false ∗ semVal (cell c κ) 0 -∗ runs c K Q))
      ⊢ runs c (.op (.waitDma2 q src dst h₁ h₂) fun _ => K) Q := by
  unfold owing due fresh
  have hcell : ((c : Thread nD τ), (SemLoc.dma q : SemLoc sig)) = cell c κ := by unfold cell; rw [hq]
  iintro ⟨#HX, ⟨%W, HO⟩, Hc, Ha, HK⟩
  iapply (Rounds.wp_wait_rest_token 𝒱₀ ER (Rd A B G) (c : Thread nD τ) none (sm := .dma q) (κ := N (cell c κ))
      (wpE_waitDma2_eq 𝒱₀ (c : Thread nD τ) none Set.univ) (Set.mem_univ _) () (O := O) (W := W) (R := 0) (m := 0) (T := ∅)
      (by rw [hcell, expect_of A B G c κ hκ, hN, Nat.zero_add])) $$ [HO Hc Ha]
  · rw [hcell, hN]
    isplitr; · iapply (ctx_inv A B G N c c κ); iexact HX
    isplitl [Hc]; · iexact Hc
    isplitl [HO]; · iexact HO
    isplitr
    · iapply (mayWait_of c (.dma q) (n := n) (by rw [hcell]; exact hn) hO)
      iapply (ctx_lev A B G N c); iexact HX
    iexact Ha
  rw [hcell, rest_of A B G c κ hκ]
  iintro ⟨HO, Ha, -, Hp⟩
  imod (Rounds.cell_close ER (Rd A B G) (g := cell c κ) (κ := N (cell c κ)) (Es := Set.univ) (Set.mem_univ _) (fun h => h) (R := 0 + 1)
    (duties_later A B G _)) $$ [Ha] with Hs
  · isplitr; · iapply (ctx_inv A B G N c c κ); iexact HX
    iexact Ha
  iapply HK
  isplitl [HO]; · iexists _; iexact HO
  isplitl [Hp]; · iexact Hp
  iexact Hs

/-- A transfer at home whose target takes contents `g` that read as the source does. -/
theorem copy_step (c : Dev nD) {κ : Cell} (hκ : κ ≠ .bar) {q : DmaSem sig} (hq : κ.sem = .dma q) {sp sp' : Space} {s : Shape} {e : EltTy}
    {src : Memref sig .tc sp s e} {dst : Memref sig .tc sp' s e} {h₁ : src.view.WordExact} {h₂ : dst.view.WordExact}
    {h₃ : DmaTarget.Typed (nD := nD) (τ := τ) (sig := sig) (p := Proc.tc) sp (.dma q) (.here dst)}
    (hN : dst.view.dmaCredit = κ.amt) (σ : PosShare TreeShare) (fs : Buf (Elt F) (src.view.loc (c : Thread nD τ)))
    (g : Buf (Elt F) (dst.view.loc (c : Thread nD τ))) (hg : dst.view.read (Elt F) g = src.view.read (Elt F) fs)
    (hpay : iprop(pt c dst fullShare g ∗ pt c src σ fs) ⊢ pay₀ A B G c κ false)
    (K : PT (F := F)) (Q : PUnit → sProp 𝕄) :
    iprop(ctx A B G N c ∗ (∃ f, pt c dst fullShare f) ∗ pt c src σ fs ∗ duty c κ ∗ (due c κ -∗ runs c K Q))
      ⊢ runs c (.op (.enqueueDma src (.here dst) (.dma q) h₁ h₂ h₃) fun _ => K) Q := by
  unfold due duty
  have hcell : ((c : Thread nD τ), (SemLoc.dma q : SemLoc sig)) = cell c κ := by unfold cell; rw [hq]
  iintro ⟨#HX, ⟨%fd, Hd⟩, Hs, Ht, HK⟩
  iapply (Rounds.wp_copy_pointsTo 𝒱₀ ER (Rd A B G) (c : Thread nD τ) none (src := src) (dst := dst) (sem := .dma q) (q := σ)
      (fs := fs) (fd := fd) (r := 0) (d := false) (κ := N (cell c κ))
      (by rw [hcell, duties_of A B G c κ hκ]; exact Finset.mem_singleton_self _) () κ.amt hN (by rw [hcell]; exact amount_of A B G c κ false)
      (by
        rw [hcell, payload_of, pointsTo_congr (write_read dst.view fd g hg)]
        exact hpay)) $$ [Hd Hs Ht]
  · rw [hcell]
    isplitr; · iapply (ctx_inv A B G N c c κ); iexact HX
    isplitl [Hs]; · iexact Hs
    isplitl [Hd]; · iexact Hd
    isplitl [Ht]; · iexact Ht
    iapply (ctx_own A B G N c hκ); iexact HX
  rw [hcell]
  iexact HK

/-- A transfer to device `d`, to rows `d` has handed over; `n` is the device as the kernel computes it. -/
theorem send_step (c d : Dev nD) {n : Dev nD} (hn : n = d) {κ κ' : Cell} (hκ : κ ≠ .bar) (hκ' : κ' ≠ .bar) {q q' : DmaSem sig} (hq : κ.sem = .dma q) (hq' : κ'.sem = .dma q')
    {sp sp' : Space} {s : Shape} {e : EltTy}
    {src : Memref sig .tc sp s e} {dst : Memref sig .tc sp' s e} {h₁ : src.view.WordExact} {h₂ : dst.view.WordExact}
    {hsc : dst.view.ref.isScScratch = false}
    {h₃ : DmaTarget.Typed (nD := nD) (τ := τ) (sig := sig) (p := Proc.tc) sp (.dma q') (.remote (n : Thread nD τ) dst (.dma q) hsc)}
    (hN : dst.view.dmaCredit = κ.amt) (hN' : κ'.amt = κ.amt) (σ : PosShare TreeShare) (fs : Buf (Elt F) (src.view.loc (c : Thread nD τ)))
    (g : Buf (Elt F) (dst.view.loc (d : Thread nD τ))) (hg : dst.view.read (Elt F) g = src.view.read (Elt F) fs)
    (hpay : pt c src σ fs ⊢ pay₀ A B G c κ false) (hpay' : pt d dst fullShare g ⊢ pay₀ A B G d κ' false)
    (O : CellTallies nD τ sig Unit) (K : PT (F := F)) (Q : PUnit → sProp 𝕄) :
    iprop(ctx A B G N c ∗ owing c (O + tallyAt (cell d κ') () κ'.amt) ∗ ((∃ f, pt d dst fullShare f) ∗ reached ER (cell d κ') 0) ∗ pt c src σ fs
        ∗ duty c κ ∗ duty d κ' ∗ (owing c O ∗ due c κ -∗ runs c K Q))
      ⊢ runs c (.op (.enqueueDma src (.remote (n : Thread nD τ) dst (.dma q) hsc) (.dma q') h₁ h₂ h₃) fun _ => K) Q := by
  replace hn := hn.symm
  subst hn
  unfold due duty owing
  have hcell : ((c : Thread nD τ), (SemLoc.dma q : SemLoc sig)) = cell c κ := by unfold cell; rw [hq]
  have hcell' : ((d : Thread nD τ), (SemLoc.dma q' : SemLoc sig)) = cell d κ' := by unfold cell; rw [hq']
  iintro ⟨#HX, ⟨%W, HO⟩, ⟨⟨%fd, Hd⟩, Hr⟩, Hs, Ht, Ht', HK⟩
  iapply (Rounds.wp_send_pointsTo 𝒱₀ ER (Rd A B G) (c : Thread nD τ) none (c' := (d : Thread nD τ)) (src := src) (dst := dst)
      (sS := .dma q) (sem := .dma q') (q := σ) (fs := fs) (fd := fd) (r₁ := 0) (r₂ := 0) (d₁ := false) (d₂ := false)
      (κ₁ := N (cell c κ)) (κ₂ := N (cell d κ'))
      (by rw [hcell, duties_of A B G c κ hκ]; exact Finset.mem_singleton_self _) (by rw [hcell', duties_of A B G d κ' hκ']; exact Finset.mem_singleton_self _)
      () () κ.amt hN (by rw [hcell]; exact amount_of A B G c κ false) (by rw [hcell', ← hN']; exact amount_of A B G d κ' false)
      (O₀ := O + tallyAt (cell d κ') () κ'.amt) O (by rw [hcell', hN']) (W := W)
      (by rw [hcell, payload_of]; exact hpay)
      (by
        rw [hcell', payload_of, pointsTo_congr (write_read dst.view fd g hg)]
        exact hpay')) $$ [HO Hd Hr Hs Ht Ht']
  · rw [hcell, hcell']
    isplitr; · iapply (ctx_inv A B G N c c κ); iexact HX
    isplitr; · iapply (ctx_inv A B G N c d κ'); iexact HX
    isplitl [Hs]; · iexact Hs
    isplitl [Hd]; · iexact Hd
    isplitl [HO]; · iexact HO
    isplitl [Ht]; · iexact Ht
    isplitr; · iapply (ctx_own A B G N c hκ); iexact HX
    isplitl [Ht']; · iexact Ht'
    iexact Hr
  rw [hcell]
  iintro ⟨Hc, HO⟩
  iapply HK
  isplitl [HO]; · iexists W; iexact HO
  iexact Hc

end Steps

end Cert.KernelIdealRun

end
-- ==== Proof.KernelIdealRun.Partition.lean ====
/-
  The chunks make up the buffers.

  A buffer of 304 rows is its nine chunks, and also its first 256 rows and its last 48; a device's result is the nine
  chunks it stores and the seven its y partner forwards. Each is read off one function that says which piece a row is in.
-/
module

public import proofs.«01_k».proof.Proof.KernelIdealRun.Schedule

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A whole buffer is held piece by piece, where every element is in the piece `cls` names. -/
theorem held_pieces {T : Type} [Fintype T] [DecidableEq T] {ℓ : Loc nD τ sig} (cls : Idx ℓ → T) (S : Finset (Idx ℓ)) (hS : S = Finset.univ)
    (K : T → Finset (Idx ℓ)) (hK : ∀ x t, x ∈ K t ↔ cls x = t) (l : List T) (hl : Finset.univ = l.toFinset) (hn : l.Nodup)
    (q : PosShare TreeShare) (f : Buf (Elt F) ℓ) : (ℓ ↦[S]{q} f : sProp 𝕄) = bigSepL l fun t => ℓ ↦[K t]{q} f := by
  have hcover : S = Finset.univ.biUnion K := by
    rw [hS]
    exact (Finset.eq_univ_iff_forall.mpr fun x => Finset.mem_biUnion.mpr ⟨cls x, Finset.mem_univ _, (hK x _).mpr rfl⟩).symm
  have hdisj : ∀ t ∈ (Finset.univ : Finset T), ∀ t' ∈ (Finset.univ : Finset T), t ≠ t' → Disjoint (K t) (K t') := fun t _ t' _ hne =>
    Finset.disjoint_left.mpr fun x hx hx' => hne (((hK x t).mp hx).symm.trans ((hK x t').mp hx'))
  rw [hcover, pointsTo_biUnion _ _ hdisj, bigSep_univ_eq_bigSepL l hl hn]

/-! ## Rows -/

/-- An element is in a rectangle of whole rows when its row is. -/
theorem mem_rows {n N a : ℕ} (o : Fin 2 → ℕ) (ho : o = ![a, 0]) (inb) (x : (Sh N).Idx) :
    x ∈ (Rect.unit (s := Sh N) o (Sh n).size inb).set ↔ a ≤ (x 0).val ∧ (x 0).val < a + n := by
  subst ho
  rw [Rect.mem_set_unit]
  constructor
  · intro h; exact h 0
  · intro h i
    match i with
    | ⟨0, _⟩ => exact h
    | ⟨1, _⟩ => exact ⟨Nat.zero_le _, by show (x 1).val < 0 + 512; have : (x 1).val < 512 := (x 1).isLt; omega⟩

theorem chunk_rows : ∀ (r : Fin 304) (k : Fin 9), (off k ≤ r.val ∧ r.val < off k + sz k) ↔ chunkOf r.val = k := by decide +kernel

theorem mem_rc (k : Fin 9) (x : S304x512.Idx) : x ∈ (rc k).set ↔ chunkOf (x 0).val = k :=
  (mem_rows (n := sz k) (N := 304) _ rfl _ x).trans (chunk_rows (x 0) k)

/-- The elements of chunk `k` are those of its rows; of the two fetched pieces too. -/
theorem mem_part_p (k : Fin 9) (x : S304x512.Idx) : x ∈ (part pM k).view.set ↔ chunkOf (x 0).val = k :=
  (Finset.ext_iff.mp (View.set_slice_whole cc0_scratch0 (rc k)) x).trans (mem_rc k x)
theorem mem_part_r (k : Fin 9) (x : S304x512.Idx) : x ∈ (part rM k).view.set ↔ chunkOf (x 0).val = k :=
  (Finset.ext_iff.mp (View.set_slice_whole cc0_scratch1 (rc k)) x).trans (mem_rc k x)
theorem mem_part_c (k : Fin 9) (x : S304x512.Idx) : x ∈ (part cM k).view.set ↔ chunkOf (x 0).val = k :=
  (Finset.ext_iff.mp (View.set_slice_whole cc0_scratch2 (rc k)) x).trans (mem_rc k x)
theorem mem_part_u (k : Fin 9) (x : S304x512.Idx) : x ∈ (part uM k).view.set ↔ chunkOf (x 0).val = k :=
  (Finset.ext_iff.mp (View.set_slice_whole cc0_scratch3 (rc k)) x).trans (mem_rc k x)

theorem pt_chunks_p (c : Dev nD) (q : PosShare TreeShare) (f : S304x512.Idx → Elt F .f32) :
    (pt c pM q f : sProp 𝕄) = bigSepL l9 fun k => pt c (part pM k) q f :=
  held_pieces (ℓ := pM.view.loc (c : Thread nD τ)) (fun x : S304x512.Idx => chunkOf (x 0).val) _ (View.set_whole cc0_scratch0) (fun k => (part pM k).view.set)
    (fun x k => mem_part_p k x) l9 (by decide) (by decide) q f
theorem pt_chunks_r (c : Dev nD) (q : PosShare TreeShare) (f : S304x512.Idx → Elt F .f32) :
    (pt c rM q f : sProp 𝕄) = bigSepL l9 fun k => pt c (part rM k) q f :=
  held_pieces (ℓ := rM.view.loc (c : Thread nD τ)) (fun x : S304x512.Idx => chunkOf (x 0).val) _ (View.set_whole cc0_scratch1) (fun k => (part rM k).view.set)
    (fun x k => mem_part_r k x) l9 (by decide) (by decide) q f
theorem pt_chunks_c (c : Dev nD) (q : PosShare TreeShare) (f : S304x512.Idx → Elt F .f32) :
    (pt c cM q f : sProp 𝕄) = bigSepL l9 fun k => pt c (part cM k) q f :=
  held_pieces (ℓ := cM.view.loc (c : Thread nD τ)) (fun x : S304x512.Idx => chunkOf (x 0).val) _ (View.set_whole cc0_scratch2) (fun k => (part cM k).view.set)
    (fun x k => mem_part_c k x) l9 (by decide) (by decide) q f
theorem pt_chunks_u (c : Dev nD) (q : PosShare TreeShare) (f : S304x512.Idx → Elt F .f32) :
    (pt c uM q f : sProp 𝕄) = bigSepL l9 fun k => pt c (part uM k) q f :=
  held_pieces (ℓ := uM.view.loc (c : Thread nD τ)) (fun x : S304x512.Idx => chunkOf (x 0).val) _ (View.set_whole cc0_scratch3) (fun k => (part uM k).view.set)
    (fun x k => mem_part_u k x) l9 (by decide) (by decide) q f

/-- The rows of the two pieces a fetch brings. -/
def half : Bool → Finset S304x512.Idx
  | true => (Rect.unit (s := S304x512) ![0, 0] S256x512.size inb_S304x512_S256x512_0_0).set
  | false => (Rect.unit (s := S304x512) ![256, 0] S48x512.size inb_S304x512_S48x512_256_0).set

theorem mem_half (x : S304x512.Idx) : ∀ b : Bool, x ∈ half b ↔ decide ((x 0).val < 256) = b
  | true => (mem_rows (n := 256) (N := 304) (a := 0) _ rfl _ x).trans (by rw [decide_eq_true_iff]; omega)
  | false => (mem_rows (n := 48) (N := 304) (a := 256) _ rfl _ x).trans (by
      have hx : (x 0).val < 304 := (x 0).isLt
      rw [decide_eq_false_iff_not]; omega)

theorem pt_halves_p (c : Dev nD) (q : PosShare TreeShare) (f : S304x512.Idx → Elt F .f32) :
    (pt c pM q f : sProp 𝕄) = iprop(pt c (lo pM) q f ∗ pt c (hi pM) q f) := by
  have h1 : (lo pM).view.set = half true := View.set_slice_whole cc0_scratch0 _
  have h2 : (hi pM).view.set = half false := View.set_slice_whole cc0_scratch0 _
  show _ = iprop(((lo pM).view.loc (c : Thread nD τ) ↦[(lo pM).view.set]{q} f) ∗ ((hi pM).view.loc (c : Thread nD τ) ↦[(hi pM).view.set]{q} f))
  rw [h1, h2]
  exact held_pieces (ℓ := pM.view.loc (c : Thread nD τ)) (fun x : S304x512.Idx => decide ((x 0).val < 256)) _ (View.set_whole cc0_scratch0) half mem_half
    [true, false] (by decide) (by decide) q f
theorem pt_halves_r (c : Dev nD) (q : PosShare TreeShare) (f : S304x512.Idx → Elt F .f32) :
    (pt c rM q f : sProp 𝕄) = iprop(pt c (lo rM) q f ∗ pt c (hi rM) q f) := by
  have h1 : (lo rM).view.set = half true := View.set_slice_whole cc0_scratch1 _
  have h2 : (hi rM).view.set = half false := View.set_slice_whole cc0_scratch1 _
  show _ = iprop(((lo rM).view.loc (c : Thread nD τ) ↦[(lo rM).view.set]{q} f) ∗ ((hi rM).view.loc (c : Thread nD τ) ↦[(hi rM).view.set]{q} f))
  rw [h1, h2]
  exact held_pieces (ℓ := rM.view.loc (c : Thread nD τ)) (fun x : S304x512.Idx => decide ((x 0).val < 256)) _ (View.set_whole cc0_scratch1) half mem_half
    [true, false] (by decide) (by decide) q f

/-! ## The result -/

/-- The piece of device `c`'s result row `r` is in: a chunk of its own, or one of its y partner's. -/
def pieceOf (y r : ℕ) : Fin 9 ⊕ Fin 7 :=
  if r / 256 = y then .inl (chunkOf (r - 256 * y))
  else if h : r - 256 * (1 - y) < 192 then .inr ⟨(r - 256 * (1 - y)) / 32, by omega⟩
  else if r - 256 * (1 - y) < 208 then .inr 6
  else .inl 8

theorem own_rows : ∀ (y : Fin 2) (r : Fin 512) (k : Fin 9),
    ((if off k < 256 then 256 * y.val + off k else 256 * (1 - y.val) + 208 + (off k - 256)) ≤ r.val
      ∧ r.val < (if off k < 256 then 256 * y.val + off k else 256 * (1 - y.val) + 208 + (off k - 256)) + sz k)
      ↔ pieceOf y.val r.val = .inl k := by decide +kernel
theorem forwarded_rows : ∀ (y : Fin 2) (r : Fin 512) (k : Fin 7),
    (256 * (1 - y.val) + off (up k) ≤ r.val ∧ r.val < 256 * (1 - y.val) + off (up k) + sz (up k)) ↔ pieceOf y.val r.val = .inr k := by decide +kernel

theorem off_up (k : Fin 7) : off (up k) < 256 := by revert k; decide

/-- The pieces of device `c`'s result. -/
def piece (c : Dev nD) : Fin 9 ⊕ Fin 7 → Finset S512x512.Idx
  | .inl k => (dst c k).view.set
  | .inr k => (dst (yn c) (up k)).view.set

theorem mem_piece (c : Dev nD) (x : S512x512.Idx) : ∀ t, x ∈ piece c t ↔ pieceOf (py c) (x 0).val = t
  | .inl k => ((Finset.ext_iff.mp (View.set_slice_whole main_v2 _) x).trans (mem_rows (n := sz k) (N := 512) _ (dOff_eq c k) _ x)).trans
      (own_rows ⟨py c, Nat.lt_succ_of_le (py_le c)⟩ (x 0) k)
  | .inr k => ((Finset.ext_iff.mp (View.set_slice_whole main_v2 _) x).trans (mem_rows (n := sz (up k)) (N := 512) _ (dOff_eq (yn c) (up k)) _ x)).trans (by
      refine Iff.trans ?_ (forwarded_rows ⟨py c, Nat.lt_succ_of_le (py_le c)⟩ (x 0) k)
      unfold prow
      rw [if_pos (off_up k), py_yn])

theorem pt_result (c : Dev nD) (q : PosShare TreeShare) (f : S512x512.Idx → Elt F .f32) :
    (pt c oM q f : sProp 𝕄) = iprop(bigSepL l9 (fun k => pt c (dst c k) q f) ∗ bigSepL l7 fun k => pt c (dst (yn c) (up k)) q f) := by
  refine (held_pieces (ℓ := oM.view.loc (c : Thread nD τ)) (fun x : S512x512.Idx => pieceOf (py c) (x 0).val) _ (View.set_whole main_v2) (piece c) (mem_piece c)
    (l9.map .inl ++ l7.map .inr) (by decide) (by decide) q f).trans ?_
  rw [bigSepL_append, bigSepL_map, bigSepL_map]
  rfl

/-! ## Shares, and a part of an argument -/

/-- Elements held are held by halves. -/
theorem pt_shares (c : Dev nD) {sp : Space} {s : Shape} {e : EltTy} (M : Memref sig .tc sp s e) (f : Buf (Elt F) (M.view.loc (c : Thread nD τ))) :
    (pt c M fullShare f : sProp 𝕄) = iprop(pt c M fullShare.left f ∗ pt c M fullShare.right f) :=
  Entails.antisymm (pointsTo_share (PosShare.mem_left_op_right fullShare)).1 (pointsTo_share (PosShare.mem_left_op_right fullShare)).2

/-- Elements held include those of any set of them. -/
theorem held_part {ℓ : Loc nD τ sig} {S I : Finset (Idx ℓ)} (h : I ⊆ S) (q : PosShare TreeShare) (f : Buf (Elt F) ℓ) :
    (ℓ ↦[S]{q} f : sProp 𝕄) = iprop((ℓ ↦[I]{q} f) ∗ ℓ ↦[S \ I]{q} f) :=
  Entails.antisymm (pointsTo_split_subset h).1 (pointsTo_split_subset h).2

end Cert.KernelIdealRun

end
-- ==== Proof.KernelIdealRun.Chunks.lean ====
/-
  What each of the body's steps does to one chunk.

  A chunk is sent along x, reduced once the partner's has come, stored at home, forwarded along y if it is one of the
  first seven, and at last waited for. A chunk being sent and read at once is held by halves: the transfer keeps the
  right half of what it reads until it is waited for.
-/
module

public import proofs.«01_k».proof.Proof.KernelIdealRun.Steps
public import proofs.«01_k».proof.Proof.KernelIdealRun.Partition

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S1x512x512.Idx → Elt F .f32) (B : Dev nD → S512x512.Idx → Elt F .f32) (G : Dev nD → Vec F S1x512 .f32)
variable (N : GSem nD τ sig → ℕ) (c : Dev nD)

/-! ## A chunk sent along x -/

/-- What sending chunk `k` takes: the chunk, the partner's rows for it, and the two duties. -/
def sendIn (k : Fin 9) : sProp 𝕄 :=
  iprop(landX (xn c) k ∗ pt c (part pM k) fullShare (psF A c) ∗ duty c (.sa k) ∗ duty (xn c) (.ra k))
/-- What it leaves: half of the chunk to read, and the wait for the other. -/
def sendOut (k : Fin 9) : sProp 𝕄 := iprop(pt c (part pM k) fullShare.left (psF A c) ∗ due c (.sa k))

theorem owesX_cons (k : Fin 9) (l : List (Fin 9)) : owesX c (k :: l) = owesX c l + tallyAt (cell (xn c) (.ra k)) () (crd k) := by
  unfold owesX; rw [List.map_cons, List.sum_cons, add_comm]
theorem owesY_cons (k : Fin 7) (l : List (Fin 7)) : owesY c (k :: l) = owesY c l + tallyAt (cell (yn c) (.rb k)) () (crd (up k)) := by
  unfold owesY; rw [List.map_cons, List.sum_cons, add_comm]

theorem send_chunk (k : Fin 9) (l : List (Fin 9)) (K : PT (F := F)) (Q : PUnit → sProp 𝕄) :
    iprop(ctx A B G N c ∗ owing c (owesY c l7 + owesX c (k :: l)) ∗ sendIn A c k
        ∗ (owing c (owesY c l7 + owesX c l) ∗ sendOut A c k -∗ runs c K Q))
      ⊢ runs c (send c k K) Q := by
  unfold sendIn sendOut landX send
  rw [owesX_cons, ← add_assoc, pt_shares c (part pM k)]
  iintro ⟨#HX, HO, ⟨HL, ⟨Hl, Hr⟩, Ht, Ht'⟩, HK⟩
  iapply (send_step A B G N c (xn c) (xDev_eq c k) (κ := .sa k) (κ' := .ra k) (src := part pM k) (dst := part cM k) nofun nofun rfl rfl rfl rfl fullShare.right (psF A c) (psF A c)
    ((read_part_c k _).trans (read_part_p k _).symm) .rfl (by unfold pay₀; rw [xn_xn]) (owesY c l7 + owesX c l) K Q)
  isplitr; · iexact HX
  isplitl [HO]; · iexact HO
  isplitl [HL]; · iexact HL
  isplitl [Hr]; · iexact Hr
  isplitl [Ht]; · iexact Ht
  isplitl [Ht']; · iexact Ht'
  iintro ⟨HO, Hc⟩
  iapply HK
  isplitl [HO]; · iexact HO
  isplitl [Hl]; · iexact Hl
  iexact Hc

/-! ## A chunk reduced and stored -/

/-- What reducing chunk `k` takes. -/
def stageIn (k : Fin 9) : sProp 𝕄 :=
  iprop(due c (.ra k) ∗ fresh c (.ra k) ∗ pt c (part pM k) fullShare.left (psF A c) ∗ pt c (part rM k) fullShare (rsF B c)
    ∗ (∃ f, pt c (part uM k) fullShare f) ∗ (∃ f, pt c (dst c k) fullShare f) ∗ duty c (.st k))
/-- What it leaves beside half of the chunk computed. -/
def stageOut (k : Fin 9) : sProp 𝕄 :=
  iprop(semVal (cell c (.ra k)) 0 ∗ pt c (part cM k) fullShare (psF A (xn c)) ∗ pt c (part pM k) fullShare.left (psF A c)
    ∗ pt c (part rM k) fullShare (rsF B c) ∗ due c (.st k))

theorem read_gains (g : Vec F S1x512 .f32) :
    gM.view.readAt (Elt F) (Rect.unit (s := S1x512) ![0, 0] S1x512.size inb_S1x512_S1x512_0_0).toLoadRect g = g :=
  funext fun x => congrArg g (funext fun a => Fin.ext (by
    match a with
    | ⟨0, _⟩ => show 0 + 1 * (x 0).val = (x 0).val; omega
    | ⟨1, _⟩ => show 0 + 1 * (x 1).val = (x 1).val; omega))

theorem stage_chunk (k : Fin 9) {O : CellTallies nD τ sig Unit} (hO : Above 2 O) (K : PT (F := F)) (Q : PUnit → sProp 𝕄) :
    iprop(ctx A B G N c ∗ (owing c O ∗ pt c gM fullShare (G c)) ∗ stageIn A B c k
        ∗ ((owing c O ∗ pt c gM fullShare (G c)) ∗ stageOut A B c k ∗ pt c (part uM k) fullShare.right (outF A B G c) -∗ runs c K Q))
      ⊢ runs c (stage c k K) Q := by
  unfold stageIn stageOut stage
  iintro ⟨#HX, ⟨HO, Hg⟩, ⟨Hc, Ha, Hp, Hr, ⟨%fu, Hu⟩, Hd, Ht⟩, HK⟩
  iapply (wait_step A B G N c (κ := .ra k) nofun rfl (src := part pM k) (dst := part cM k) rfl (n := 2) (le_of_eq (lv_ra c k)) hO _ Q)
  isplitr; · iexact HX
  isplitl [HO]; · iexact HO
  isplitl [Hc]; · iexact Hc
  isplitl [Ha]; · iexact Ha
  unfold pay₀
  iintro ⟨HO, Hcc, Hs⟩
  iapply (wp_load_rect 𝒱₀ (c : Thread nD τ) none Set.univ (m := pM) (r := rc k) (Finset.Subset.refl _)) $$ Hp; iintro Hp
  iapply (wp_load_rect 𝒱₀ (c : Thread nD τ) none Set.univ (m := cM) (r := rc k) (Finset.Subset.refl _)) $$ Hcc; iintro Hcc
  iapply (wp_load_rect 𝒱₀ (c : Thread nD τ) none Set.univ (m := rM) (r := rc k) (Finset.Subset.refl _)) $$ Hr; iintro Hr
  iapply (wp_load 𝒱₀ (c : Thread nD τ) none Set.univ (m := gM) (by rw [View.set_whole]; exact Finset.subset_univ _)) $$ Hg; iintro Hg
  iapply (wp_load_rect 𝒱₀ (c : Thread nD τ) none Set.univ (m := uM) (r := rc k) (Finset.Subset.refl _)) $$ Hu; iintro Hu
  iapply (wp_store 𝒱₀ (c : Thread nD τ) none Set.univ (m := uM) (r := rc k) (Mk := Finset.univ) (S := (part uM k).view.set) (Finset.Subset.refl _)) $$ Hu; iintro Hu
  have hw : (part uM k).view.read (Elt F) (outF A B G c)
      = pay (n := sz k) ((pM.access (rc k)).read (Elt F) (psF A c)) ((cM.access (rc k)).read (Elt F) (psF A (xn c)))
          ((rM.access (rc k)).read (Elt F) (rsF B c))
          (gM.view.readAt (Elt F) (Rect.unit (s := S1x512) ![0, 0] S1x512.size inb_S1x512_S1x512_0_0).toLoadRect (G c)) := by
    rw [read_gains, show (pM.access (rc k)).read (Elt F) (psF A c) = rows k (psF A c) from read_part_p k _,
      show (cM.access (rc k)).read (Elt F) (psF A (xn c)) = rows k (psF A (xn c)) from read_part_c k _,
      show (rM.access (rc k)).read (Elt F) (rsF B c) = rows k (rsF B c) from read_part_r k _]
    show _ = outC A B G c k
    exact (read_part_u k _).trans (rows_outF A B G c k)
  ihave Hu := (Entails.of_eq (pointsTo_congr (write_read (part uM k).view fu (outF A B G c) hw))) $$ Hu
  ihave Hu2 := (Entails.of_eq (pt_shares c (part uM k) (outF A B G c))) $$ Hu
  icases Hu2 with ⟨Hul, Hur⟩
  iapply (copy_step A B G N c (κ := .st k) (src := part uM k) (dst := dst c k) nofun rfl rfl fullShare.left (outF A B G c) (resF A B G c)
    ((read_dst_own A B G c k).trans ((read_part_u k _).trans (rows_outF A B G c k)).symm) .rfl K Q)
  isplitr; · iexact HX
  isplitl [Hd]; · iexact Hd
  isplitl [Hul]; · iexact Hul
  isplitl [Ht]; · iexact Ht
  iintro Hc
  iapply HK
  isplitl [HO Hg]; · isplitl [HO] <;> iassumption
  isplitr [Hur]
  · isplitl [Hs]; · iexact Hs
    isplitl [Hcc]; · iexact Hcc
    isplitl [Hp]; · iexact Hp
    isplitl [Hr]; · iexact Hr
    iexact Hc
  iexact Hur

/-! ## A chunk forwarded along y -/

/-- What forwarding chunk `k` takes beside half of the chunk computed. -/
def fwdIn (k : Fin 7) : sProp 𝕄 := iprop(landY c (yn c) k ∗ duty c (.sb k) ∗ duty (yn c) (.rb k))

theorem fwd_chunk (k : Fin 7) (l : List (Fin 7)) (K : PT (F := F)) (Q : PUnit → sProp 𝕄) :
    iprop(ctx A B G N c ∗ owing c (owesY c (k :: l)) ∗ fwdIn c k ∗ pt c (part uM (up k)) fullShare.right (outF A B G c)
        ∗ (owing c (owesY c l) ∗ due c (.sb k) -∗ runs c K Q))
      ⊢ runs c (fwd c k K) Q := by
  unfold fwdIn landY fwd
  rw [owesY_cons]
  iintro ⟨#HX, HO, ⟨HL, Ht, Ht'⟩, Hu, HK⟩
  iapply (send_step A B G N c (yn c) (yDev_eq c k) (κ := .sb k) (κ' := .rb k) (src := part uM (up k)) (dst := dst c (up k)) nofun nofun rfl rfl rfl rfl fullShare.right (outF A B G c)
    (resF A B G (yn c))
    (by
      have h := read_dst_forwarded A B G (yn c) k
      rw [yn_yn] at h
      exact h.trans ((read_part_u (up k) _).trans (rows_outF A B G c (up k))).symm)
    .rfl (by unfold pay₀; rw [yn_yn]) (owesY c l) K Q)
  isplitr; · iexact HX
  isplitl [HO]; · iexact HO
  isplitl [HL]; · iexact HL
  isplitl [Hu]; · iexact Hu
  isplitl [Ht]; · iexact Ht
  isplitl [Ht']; · iexact Ht'
  iexact HK

/-! ## The closing waits -/

/-- What the waits for chunk `k` to have left along x and to be stored take, and what they bring. -/
def closeAIn (k : Fin 9) : sProp 𝕄 := iprop(due c (.sa k) ∗ fresh c (.sa k) ∗ due c (.st k) ∗ fresh c (.st k))
def closeAOut (k : Fin 9) : sProp 𝕄 :=
  iprop(pt c (part pM k) fullShare.right (psF A c) ∗ (pt c (dst c k) fullShare (resF A B G c) ∗ pt c (part uM k) fullShare.left (outF A B G c))
    ∗ semVal (cell c (.sa k)) 0 ∗ semVal (cell c (.st k)) 0)

theorem lv_low (κ : Cell) (h : κ ≠ .bar) (h1 : ∀ k, κ ≠ .ra k) (h2 : ∀ k, κ ≠ .rb k) : lv (cell c κ) () = 0 := by
  unfold lv
  rw [Cell.of_sem]
  cases κ with
  | bar => exact absurd rfl h
  | ra k => exact absurd rfl (h1 k)
  | rb k => exact absurd rfl (h2 k)
  | cp _ | st _ | sa _ | sb _ => rfl

theorem closeA_chunk (k : Fin 9) (K : PT (F := F)) (Q : PUnit → sProp 𝕄) :
    iprop(ctx A B G N c ∗ owing c 0 ∗ closeAIn c k ∗ (owing c 0 ∗ closeAOut A B G c k -∗ runs c K Q)) ⊢ runs c (closeA c k K) Q := by
  unfold closeAIn closeAOut closeA
  iintro ⟨#HX, HO, ⟨Hc, Ha, Hc', Ha'⟩, HK⟩
  iapply (wait_step A B G N c (κ := .sa k) nofun rfl (src := part cM k) (dst := part pM k) rfl (n := 0) (le_of_eq (lv_low c _ nofun nofun nofun)) (Above.zero 0) _ Q)
  isplitr; · iexact HX
  isplitl [HO]; · iexact HO
  isplitl [Hc]; · iexact Hc
  isplitl [Ha]; · iexact Ha
  iintro ⟨HO, Hp, Hs⟩
  iapply (wait_step A B G N c (κ := .st k) nofun rfl (src := part uM k) (dst := dst c k) rfl (n := 0) (le_of_eq (lv_low c _ nofun nofun nofun)) (Above.zero 0) _ Q)
  isplitr; · iexact HX
  isplitl [HO]; · iexact HO
  isplitl [Hc']; · iexact Hc'
  isplitl [Ha']; · iexact Ha'
  iintro ⟨HO, Hd, Hs'⟩
  iapply HK
  isplitl [HO]; · iexact HO
  unfold pay₀
  isplitl [Hp]; · iexact Hp
  isplitl [Hd]; · iexact Hd
  isplitl [Hs] <;> iassumption

/-- The same along y. -/
def closeBIn (k : Fin 7) : sProp 𝕄 := iprop(due c (.sb k) ∗ fresh c (.sb k) ∗ due c (.rb k) ∗ fresh c (.rb k))
def closeBOut (k : Fin 7) : sProp 𝕄 :=
  iprop(pt c (part uM (up k)) fullShare.right (outF A B G c) ∗ pt c (dst (yn c) (up k)) fullShare (resF A B G c)
    ∗ semVal (cell c (.sb k)) 0 ∗ semVal (cell c (.rb k)) 0)

theorem closeB_chunk (k : Fin 7) (K : PT (F := F)) (Q : PUnit → sProp 𝕄) :
    iprop(ctx A B G N c ∗ owing c 0 ∗ closeBIn c k ∗ (owing c 0 ∗ closeBOut A B G c k -∗ runs c K Q)) ⊢ runs c (closeB c k K) Q := by
  unfold closeBIn closeBOut closeB
  iintro ⟨#HX, HO, ⟨Hc, Ha, Hc', Ha'⟩, HK⟩
  iapply (wait_step A B G N c (κ := .sb k) nofun rfl (src := dst c (up k)) (dst := part uM (up k)) rfl (n := 0) (le_of_eq (lv_low c _ nofun nofun nofun)) (Above.zero 0) _ Q)
  isplitr; · iexact HX
  isplitl [HO]; · iexact HO
  isplitl [Hc]; · iexact Hc
  isplitl [Ha]; · iexact Ha
  iintro ⟨HO, Hp, Hs⟩
  iapply (wait_step A B G N c (κ := .rb k) nofun rfl (src := part uM (up k)) (dst := dst c (up k)) rfl (n := 3) (le_of_eq (lv_rb c k)) (Above.zero 3) _ Q)
  isplitr; · iexact HX
  isplitl [HO]; · iexact HO
  isplitl [Hc']; · iexact Hc'
  isplitl [Ha']; · iexact Ha'
  iintro ⟨HO, Hd, Hs'⟩
  iapply HK
  isplitl [HO]; · iexact HO
  unfold pay₀
  isplitl [Hp]; · iexact Hp
  isplitl [Hd]; · iexact Hd
  isplitl [Hs] <;> iassumption

end Cert.KernelIdealRun

end
-- ==== Proof.KernelIdealRun.Lists.lean ====
/-
  Rows of assertions over lists of chunks: pairing them, and the lists a device's cells make.
-/
module

public import proofs.«01_k».proof.Proof.KernelIdealRun.Chunks

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two rows side by side are one row of pairs. -/
theorem zip_rows {I : Type} (Φ Ψ : I → sProp 𝕄) : ∀ l : List I, iprop(bigSepL l Φ ∗ bigSepL l Ψ) ⊢ bigSepL l fun i => iprop(Φ i ∗ Ψ i)
  | [] => by
    rw [bigSepL_nil, bigSepL_nil, bigSepL_nil]
    iintro ⟨-, -⟩; iempintro
  | i :: l => by
    rw [bigSepL_cons', bigSepL_cons', bigSepL_cons']
    iintro ⟨⟨Hi, Hl⟩, Hi', Hl'⟩
    isplitl [Hi Hi']
    · isplitl [Hi] <;> iassumption
    · iapply (zip_rows Φ Ψ l)
      isplitl [Hl] <;> iassumption
theorem unzip_rows {I : Type} (Φ Ψ : I → sProp 𝕄) : ∀ l : List I, (bigSepL l fun i => iprop(Φ i ∗ Ψ i)) ⊢ iprop(bigSepL l Φ ∗ bigSepL l Ψ)
  | [] => by
    rw [bigSepL_nil, bigSepL_nil, bigSepL_nil]
    iintro -
    isplitr <;> iempintro
  | i :: l => by
    rw [bigSepL_cons', bigSepL_cons', bigSepL_cons']
    iintro ⟨⟨Hi, Hi'⟩, Hl⟩
    ihave Hl2 := (unzip_rows Φ Ψ l) $$ Hl
    icases Hl2 with ⟨Hl, Hl'⟩
    isplitl [Hi Hl]
    · isplitl [Hi] <;> iassumption
    · isplitl [Hi'] <;> iassumption
/-- As an equation. -/
theorem rows_pair {I : Type} (Φ Ψ : I → sProp 𝕄) (l : List I) : (bigSepL l fun i => iprop(Φ i ∗ Ψ i)) = iprop(bigSepL l Φ ∗ bigSepL l Ψ) :=
  Entails.antisymm (unzip_rows Φ Ψ l) (zip_rows Φ Ψ l)

/-- A row rewritten member by member, with what every step may consult. -/
theorem rows_map {I : Type} (X : sProp 𝕄) [BI.Persistent X] (Φ Ψ : I → sProp 𝕄) (h : ∀ i, iprop(X ∗ Φ i) ⊢ Ψ i) :
    ∀ l : List I, iprop(X ∗ bigSepL l Φ) ⊢ bigSepL l Ψ
  | [] => by
    rw [bigSepL_nil, bigSepL_nil]
    iintro ⟨-, -⟩; iempintro
  | i :: l => by
    rw [bigSepL_cons', bigSepL_cons']
    iintro ⟨#HX, Hi, Hl⟩
    isplitl [Hi]
    · iapply (h i)
      isplitr; · iexact HX
      iexact Hi
    · iapply (rows_map X Φ Ψ h l)
      isplitr; · iexact HX
      iexact Hl

/-- The nine chunks are the seven forwarded and the last two. -/
theorem rows_nine (Φ : Fin 9 → sProp 𝕄) : bigSepL l9 Φ = iprop(bigSepL l7 (fun k => Φ (up k)) ∗ Φ 7 ∗ Φ 8) := by
  rw [show l9 = l7.map up ++ [7, 8] by decide, bigSepL_append, bigSepL_map]
  rfl

/-- Four pieces one by one. -/
theorem rows_four (Φ : Fin 4 → sProp 𝕄) : bigSepL l4 Φ = iprop(Φ 0 ∗ Φ 1 ∗ Φ 2 ∗ Φ 3) := rfl

/-- A device's own cells, kind by kind. -/
theorem rows_own (Φ : Cell → sProp 𝕄) : bigSepL Cell.own Φ
    = iprop(bigSepL l4 (fun i => Φ (.cp i)) ∗ bigSepL l9 (fun k => Φ (.st k)) ∗ bigSepL l9 (fun k => Φ (.sa k)) ∗ bigSepL l9 (fun k => Φ (.ra k))
      ∗ bigSepL l7 (fun k => Φ (.sb k)) ∗ bigSepL l7 (fun k => Φ (.rb k))) := by
  unfold Cell.own
  rw [bigSepL_append, bigSepL_append, bigSepL_append, bigSepL_append, bigSepL_append, bigSepL_map, bigSepL_map, bigSepL_map, bigSepL_map,
    bigSepL_map, bigSepL_map]

/-- The device whose cell `κ` device `c` raises. -/
def payee (c : Dev nD) : Cell → Dev nD
  | .ra _ => xn c
  | .rb _ => yn c
  | _ => c

end Cert.KernelIdealRun

end
-- ==== Proof.KernelIdealRun.Talk.lean ====
/-
  The whole body on one device: from its arguments and its cells to its result, every cell's counter back at zero.
-/
module

public import proofs.«01_k».proof.Proof.KernelIdealRun.Lists

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → S1x512x512.Idx → Elt F .f32) (B : Dev nD → S512x512.Idx → Elt F .f32) (G : Dev nD → Vec F S1x512 .f32)
variable (N : GSem nD τ sig → ℕ) (c : Dev nD)

/-! ## The barrier -/

/-- A partner's barrier raised, with what the raise hands over. -/
theorem signal_step (d : Dev nD) {n : Dev nD} (hn : n = d) (b : Bool) (O : CellTallies nD τ sig Unit) (K : PT (F := F)) (Q : PUnit → sProp 𝕄) :
    iprop(ctx A B G N c ∗ owing c (O + tallyAt (cell d .bar) () 1) ∗ dutyTok ER (cell d .bar) 0 b ∗ pay₀ A B G d .bar b
        ∗ (owing c O -∗ runs c K Q))
      ⊢ runs c (.op (.semSignal (n, .tc) barrier0 (1#32 : BitVec 32).toInt) fun _ => K) Q := by
  replace hn := hn.symm
  subst hn
  have hp : (Rd A B G).payload ((d : Thread nD τ), (SemLoc.reg barrier0 : SemLoc sig)) 0 b = pay₀ A B G d .bar b := payload_of A B G d .bar b
  unfold owing
  iintro ⟨#HX, ⟨%W, HO⟩, Ht, Hp, HK⟩
  iapply (Rounds.wp_signal 𝒱₀ ER (Rd A B G) (c : Thread nD τ) none (dst := (d : Thread nD τ)) (sem := barrier0) (r := 0) (d := b) (κ := N (cell d .bar))
      (by rw [show ((d : Thread nD τ), (SemLoc.reg barrier0 : SemLoc sig)) = cell d .bar from rfl, duties_bar]; exact Finset.mem_univ _)
      (amount_of A B G d .bar b) () O rfl (W := W)) $$ [HO Ht Hp]
  · isplitr; · iapply (ctx_inv A B G N c d .bar); iexact HX
    isplitl [HO]; · iexact HO
    isplitl [Ht]; · iexact Ht
    isplitl [Hp]
    · iapply (Entails.of_eq hp.symm) $$ Hp
    iapply (ctx_bar A B G N c d); iexact HX
  iintro HO
  iapply HK
  iexists W; iexact HO

/-- The wait for both partners. -/
theorem barrier_step {O : CellTallies nD τ sig Unit} (hO : Above 1 O) (K : PT (F := F)) (Q : PUnit → sProp 𝕄) :
    iprop(ctx A B G N c ∗ owing c O ∗ cred (tallyAt (cell c .bar) () 2) ∗ fresh c .bar
        ∗ (owing c O ∗ (bigSepL l9 (landX (xn c)) ∗ bigSepL l7 (landY c (yn c))) ∗ semVal (cell c .bar) 0 -∗ runs c K Q))
      ⊢ runs c (.op (.semWait barrier0 (2#32 : BitVec 32).toInt) fun _ => K) Q := by
  have hp : ([∗ (Rd A B G).duties ((c : Thread nD τ), (SemLoc.reg barrier0 : SemLoc sig)) 0 \ ∅] (d : Bool),
      (Rd A B G).payload ((c : Thread nD τ), (SemLoc.reg barrier0 : SemLoc sig)) 0 d)
        = iprop(bigSepL l9 (landX (xn c)) ∗ bigSepL l7 (landY (F := F) c (yn c))) := rest_bar A B G c
  unfold owing fresh
  iintro ⟨#HX, ⟨%W, HO⟩, Hc, Ha, HK⟩
  iapply (Rounds.wp_wait_rest_token 𝒱₀ ER (Rd A B G) (c : Thread nD τ) none (sm := .reg barrier0) (κ := N (cell c .bar))
      (wpE_semWait_eq 𝒱₀ (c : Thread nD τ) none Set.univ) (Set.mem_univ _) () (O := O) (W := W) (R := 0) (m := 0) (T := ∅)
      ((Nat.zero_add 2).trans (expect_bar A B G c).symm)) $$ [HO Hc Ha]
  · isplitr; · iapply (ctx_inv A B G N c c .bar); iexact HX
    isplitl [Hc]; · iexact Hc
    isplitl [HO]; · iexact HO
    isplitr
    · iapply (mayWait_of c (.reg barrier0) (n := 1) (le_of_eq (lv_bar c)) hO)
      iapply (ctx_lev A B G N c); iexact HX
    iexact Ha
  iintro ⟨HO, Ha, -, Hp⟩
  ihave Hp := (Entails.of_eq hp) $$ Hp
  imod (Rounds.cell_close ER (Rd A B G) (g := cell c .bar) (κ := N (cell c .bar)) (Es := Set.univ) (Set.mem_univ _) (fun h => h) (R := 0 + 1)
    (duties_later A B G _)) $$ [Ha] with Hs
  · isplitr; · iapply (ctx_inv A B G N c c .bar); iexact HX
    iexact Ha
  iapply HK
  isplitl [HO]; · iexists _; iexact HO
  isplitl [Hp]; · iexact Hp
  iexact Hs

/-- What each of the four fetches hands back: the rows landed and the block read. -/
theorem pay_cp0 : pay₀ A B G c (.cp 0) false = iprop(pt c (lo pM) fullShare (psF A c) ∗ pt c (src0 c) fullShare.left (A c)) := rfl
theorem pay_cp1 : pay₀ A B G c (.cp 1) false = iprop(pt c (hi pM) fullShare (psF A c) ∗ pt c (src1 c) fullShare.right (A c)) := rfl
theorem pay_cp2 : pay₀ A B G c (.cp 2) false = iprop(pt c (lo rM) fullShare (rsF B c) ∗ pt c (src2 c) fullShare.left (B c)) := rfl
theorem pay_cp3 : pay₀ A B G c (.cp 3) false = iprop(pt c (hi rM) fullShare (rsF B c) ∗ pt c (src3 c) fullShare.right (B c)) := rfl

/-- The landing buffer handed to the x partner. -/
theorem give_x : iprop(ctx A B G N c ∗ ∃ f, pt c cM fullShare f) ⊢ pay₀ A B G (xn c) .bar false := by
  unfold pay₀
  rw [xn_xn]
  iintro ⟨#HX, ⟨%f, H⟩⟩
  iapply (rows_map (ctx A B G N c) (fun k => pt c (part cM k) fullShare f) (landX c) (fun k => by
    unfold landX
    iintro ⟨#HX, H⟩
    isplitl [H]
    · iexists f; iexact H
    · iapply (ctx_own A B G N c (κ := .ra k) nofun); iexact HX) l9)
  isplitr; · iexact HX
  iapply (Entails.of_eq (pt_chunks_c c fullShare f)) $$ H

/-- The rows of the result handed to the y partner. -/
theorem give_y (f : S512x512.Idx → Elt F .f32) :
    iprop(ctx A B G N c ∗ bigSepL l7 fun k => pt c (dst (yn c) (up k)) fullShare f) ⊢ pay₀ A B G (yn c) .bar true := by
  unfold pay₀
  rw [yn_yn]
  exact rows_map (ctx A B G N c) (fun k => pt c (dst (yn c) (up k)) fullShare f) (landY (yn c) c) (fun k => by
    unfold landY
    iintro ⟨#HX, H⟩
    isplitl [H]
    · iexists f; iexact H
    · iapply (ctx_own A B G N c (κ := .rb k) nofun); iexact HX) l7

/-! ## The body -/

/-- What the body starts from. -/
def talkIn : sProp 𝕄 :=
  iprop(owing c (owesAll c)
    ∗ (cred (tallyAt (cell c .bar) () 2) ∗ bigSepL l9 (fun k => due c (.ra k)) ∗ bigSepL l7 (fun k => due c (.rb k)))
    ∗ (dutyTok ER (cell (xn c) .bar) 0 false ∗ dutyTok ER (cell (yn c) .bar) 0 true ∗ bigSepL Cell.own (fun κ => duty (payee c κ) κ))
    ∗ (fresh c .bar ∗ bigSepL Cell.own (fun κ => fresh c κ))
    ∗ (pt c aM fullShare (A c) ∗ pt c bM fullShare (B c) ∗ pt c gM fullShare (G c) ∗ ∃ f, pt c oM fullShare f)
    ∗ ((∃ f, pt c pM fullShare f) ∗ (∃ f, pt c rM fullShare f) ∗ (∃ f, pt c cM fullShare f) ∗ ∃ f, pt c uM fullShare f))

/-- What it ends with. -/
def talkOut : sProp 𝕄 :=
  iprop(owing c 0 ∗ (semVal (cell c .bar) 0 ∗ bigSepL Cell.own (fun κ => semVal (cell c κ) 0))
    ∗ (pt c aM fullShare (A c) ∗ pt c bM fullShare (B c) ∗ pt c gM fullShare (G c) ∗ pt c oM fullShare (resF A B G c))
    ∗ ((∃ f, pt c pM fullShare f) ∗ (∃ f, pt c rM fullShare f) ∗ (∃ f, pt c cM fullShare f) ∗ ∃ f, pt c uM fullShare f))

/-- What the nine reductions leave, kind by kind. -/
theorem stageOut_rows : bigSepL l9 (stageOut A B c)
    = iprop(bigSepL l9 (fun k => semVal (cell c (.ra k)) 0) ∗ bigSepL l9 (fun k => pt c (part cM k) fullShare (psF A (xn c)))
      ∗ bigSepL l9 (fun k => pt c (part pM k) fullShare.left (psF A c)) ∗ bigSepL l9 (fun k => pt c (part rM k) fullShare (rsF B c))
      ∗ bigSepL l9 (fun k => due c (.st k))) := by
  unfold stageOut
  rw [rows_pair, rows_pair, rows_pair, rows_pair]

/-- Any rows lie within the whole. -/
theorem sub_whole {sp : Space} (b : Ref sig .tc) (I : Finset (b.ty.shape.Idx)) : I ⊆ (View.whole b).set := by
  rw [View.set_whole]; exact Finset.subset_univ _

set_option maxHeartbeats 4000000 in
/-- The body runs from the one to the other. -/
theorem talk_run (Q : PUnit → sProp 𝕄) :
    iprop(ctx A B G N c ∗ talkIn A B G c ∗ (talkOut A B G c -∗ Q ⟨⟩)) ⊢ runs c (body (F := F)) Q := by
  unfold body runs
  rw [wp_deviceId]
  show _ ⊢ runs c (bodyOn c) Q
  have low : ∀ κ : Cell, κ ≠ .bar → (∀ k, κ ≠ .ra k) → (∀ k, κ ≠ .rb k) → lv (cell c κ) () ≤ 0 := fun κ h h1 h2 => le_of_eq (lv_low c κ h h1 h2)
  have habove : Above 1 (owesY c l7 + owesX c l9) := (owesY_above c l7 (by decide)).add (owesX_above c l9 (by decide))
  have habove0 : Above 0 (owesY c l7 + owesX c l9) := (owesY_above c l7 (by decide)).add (owesX_above c l9 (by decide))
  unfold talkIn bodyOn
  rw [rows_own (fun κ => duty (payee c κ) κ), rows_own (fun κ => fresh c κ), rows_four (fun i => duty (payee c (.cp i)) (.cp i)), rows_four (fun i => fresh c (.cp i)),
    show owesAll c = owesY c l7 + owesX c l9 + tallyAt (cell (yn c) .bar) () 1 + tallyAt (cell (xn c) .bar) () 1 from rfl]
  iintro ⟨#HX, ⟨HO, ⟨HcB, HcRa, HcRb⟩, ⟨HtX, HtY, ⟨Ht0, Ht1, Ht2, Ht3⟩, HtSt, HtSa, HtRa, HtSb, HtRb⟩, ⟨HfB, ⟨Hf0, Hf1, Hf2, Hf3⟩, HfSt, HfSa, HfRa, HfSb, HfRb⟩,
    ⟨HA, HB, HG, ⟨%fo, Ho⟩⟩, ⟨⟨%fp, Hp⟩, ⟨%fr, Hr⟩, HC, ⟨%fu, Hu⟩⟩⟩, HK⟩
  -- the arguments by halves, and of each half the block fetched
  ihave HA2 := (Entails.of_eq (pt_shares c aM (A c))) $$ HA
  icases HA2 with ⟨HA1, HA2⟩
  ihave HA1' := (Entails.of_eq (held_part (sub_whole (sp := .hbm) main_arg0 (src0 c).view.set) fullShare.left (A c))) $$ HA1
  icases HA1' with ⟨HA1, HA1r⟩
  ihave HA2' := (Entails.of_eq (held_part (sub_whole (sp := .hbm) main_arg0 (src1 c).view.set) fullShare.right (A c))) $$ HA2
  icases HA2' with ⟨HA2, HA2r⟩
  ihave HB2 := (Entails.of_eq (pt_shares c bM (B c))) $$ HB
  icases HB2 with ⟨HB1, HB2⟩
  ihave HB1' := (Entails.of_eq (held_part (sub_whole (sp := .hbm) main_arg1 (src2 c).view.set) fullShare.left (B c))) $$ HB1
  icases HB1' with ⟨HB1, HB1r⟩
  ihave HB2' := (Entails.of_eq (held_part (sub_whole (sp := .hbm) main_arg1 (src3 c).view.set) fullShare.right (B c))) $$ HB2
  icases HB2' with ⟨HB2, HB2r⟩
  ihave Hp2 := (Entails.of_eq (pt_halves_p c fullShare fp)) $$ Hp
  icases Hp2 with ⟨Hplo, Hphi⟩
  ihave Hr2 := (Entails.of_eq (pt_halves_r c fullShare fr)) $$ Hr
  icases Hr2 with ⟨Hrlo, Hrhi⟩
  -- the four fetches
  iapply (copy_step A B G N c (κ := .cp 0) (src := src0 c) (dst := lo pM) nofun rfl rfl fullShare.left (A c) (psF A c) (fetch0 A c) .rfl _ Q)
  isplitr; · iexact HX
  isplitl [Hplo]; · iexists fp; iexact Hplo
  isplitl [HA1]; · iexact HA1
  isplitl [Ht0]; · iexact Ht0
  iintro Hc0
  iapply (copy_step A B G N c (κ := .cp 1) (src := src1 c) (dst := hi pM) nofun rfl rfl fullShare.right (A c) (psF A c) (fetch1 A c) .rfl _ Q)
  isplitr; · iexact HX
  isplitl [Hphi]; · iexists fp; iexact Hphi
  isplitl [HA2]; · iexact HA2
  isplitl [Ht1]; · iexact Ht1
  iintro Hc1
  iapply (copy_step A B G N c (κ := .cp 2) (src := src2 c) (dst := lo rM) nofun rfl rfl fullShare.left (B c) (rsF B c) (fetch2 B c) .rfl _ Q)
  isplitr; · iexact HX
  isplitl [Hrlo]; · iexists fr; iexact Hrlo
  isplitl [HB1]; · iexact HB1
  isplitl [Ht2]; · iexact Ht2
  iintro Hc2
  iapply (copy_step A B G N c (κ := .cp 3) (src := src3 c) (dst := hi rM) nofun rfl rfl fullShare.right (B c) (rsF B c) (fetch3 B c) .rfl _ Q)
  isplitr; · iexact HX
  isplitl [Hrhi]; · iexists fr; iexact Hrhi
  isplitl [HB2]; · iexact HB2
  isplitl [Ht3]; · iexact Ht3
  iintro Hc3
  -- the barrier: the partners' rows for the device's own
  iapply (signal_step A B G N c (xn c) (dev1_eq c) false (owesY c l7 + owesX c l9 + tallyAt (cell (yn c) .bar) () 1) _ Q)
  isplitr; · iexact HX
  isplitl [HO]; · iexact HO
  isplitl [HtX]; · iexact HtX
  isplitl [HC]
  · iapply (give_x A B G N c)
    isplitr; · iexact HX
    iexact HC
  iintro HO
  ihave Ho2 := (Entails.of_eq (pt_result c fullShare fo)) $$ Ho
  icases Ho2 with ⟨Hod, Hof⟩
  iapply (signal_step A B G N c (yn c) (dev2_eq c) true (owesY c l7 + owesX c l9) _ Q)
  isplitr; · iexact HX
  isplitl [HO]; · iexact HO
  isplitl [HtY]; · iexact HtY
  isplitl [Hof]
  · iapply (give_y A B G N c fo)
    isplitr; · iexact HX
    iexact Hof
  iintro HO
  iapply (barrier_step A B G N c habove _ Q)
  isplitr; · iexact HX
  isplitl [HO]; · iexact HO
  isplitl [HcB]; · iexact HcB
  isplitl [HfB]; · iexact HfB
  iintro ⟨HO, ⟨HLX, HLY⟩, HsB⟩
  -- the partial sums fetched
  iapply (wait_step A B G N c (κ := .cp 0) nofun rfl (src := src0 c) (dst := lo pM) rfl (n := 0) (low _ nofun nofun nofun) habove0 _ Q)
  isplitr; · iexact HX
  isplitl [HO]; · iexact HO
  isplitl [Hc0]; · iexact Hc0
  isplitl [Hf0]; · iexact Hf0
  rw [pay_cp0]
  iintro ⟨HO, ⟨Hplo, HA1⟩, Hs0⟩
  iapply (wait_step A B G N c (κ := .cp 1) nofun rfl (src := src1 c) (dst := hi pM) rfl (n := 0) (low _ nofun nofun nofun) habove0 _ Q)
  isplitr; · iexact HX
  isplitl [HO]; · iexact HO
  isplitl [Hc1]; · iexact Hc1
  isplitl [Hf1]; · iexact Hf1
  rw [pay_cp1]
  iintro ⟨HO, ⟨Hphi, HA2⟩, Hs1⟩
  ihave Hp := (Entails.of_eq ((pt_halves_p c fullShare (psF A c)).symm.trans (pt_chunks_p c fullShare (psF A c)))) $$ [Hplo Hphi]
  · isplitl [Hplo] <;> iassumption
  -- sent along x
  iapply (loop c (ctx A B G N c) (send c) (fun l => owing c (owesY c l7 + owesX c l)) (sendIn A c) (sendOut A c) Q
    (fun k l K => send_chunk A B G N c k l K Q) l9 _)
  isplitr; · iexact HX
  isplitl [HO]; · iexact HO
  isplitl [HLX Hp HtSa HtRa]
  · unfold sendIn
    rw [rows_pair, rows_pair, rows_pair]
    isplitl [HLX]; · iexact HLX
    isplitl [Hp]; · iexact Hp
    isplitl [HtSa]; · iexact HtSa
    iexact HtRa
  rw [show owesY c l7 + owesX c [] = owesY c l7 from add_zero _]
  unfold sendOut
  rw [rows_pair]
  iintro ⟨HO, Hp, HcSa⟩
  -- the residual fetched
  iapply (wait_step A B G N c (κ := .cp 2) nofun rfl (src := src2 c) (dst := lo rM) rfl (n := 0) (low _ nofun nofun nofun)
    (owesY_above c l7 (by decide)) _ Q)
  isplitr; · iexact HX
  isplitl [HO]; · iexact HO
  isplitl [Hc2]; · iexact Hc2
  isplitl [Hf2]; · iexact Hf2
  rw [pay_cp2]
  iintro ⟨HO, ⟨Hrlo, HB1⟩, Hs2⟩
  iapply (wait_step A B G N c (κ := .cp 3) nofun rfl (src := src3 c) (dst := hi rM) rfl (n := 0) (low _ nofun nofun nofun)
    (owesY_above c l7 (by decide)) _ Q)
  isplitr; · iexact HX
  isplitl [HO]; · iexact HO
  isplitl [Hc3]; · iexact Hc3
  isplitl [Hf3]; · iexact Hf3
  rw [pay_cp3]
  iintro ⟨HO, ⟨Hrhi, HB2⟩, Hs3⟩
  ihave Hr := (Entails.of_eq ((pt_halves_r c fullShare (rsF B c)).symm.trans (pt_chunks_r c fullShare (rsF B c)))) $$ [Hrlo Hrhi]
  · isplitl [Hrlo] <;> iassumption
  -- what the nine reductions take, chunk by chunk
  ihave Hu := (Entails.of_eq (pt_chunks_u c fullShare fu)) $$ Hu
  ihave HS : bigSepL l9 (stageIn A B c) $$ [HcRa HfRa Hp Hr Hu Hod HtSt]
  · unfold stageIn
    rw [rows_pair, rows_pair, rows_pair, rows_pair, rows_pair, rows_pair]
    isplitl [HcRa]; · iexact HcRa
    isplitl [HfRa]; · iexact HfRa
    isplitl [Hp]; · iexact Hp
    isplitl [Hr]; · iexact Hr
    isplitl [Hu]
    · iapply (rows_map iprop(emp) (fun k => pt c (part uM k) fullShare fu) _ (fun k => by iintro ⟨-, H⟩; iexists fu; iexact H) l9)
      isplitr; · iempintro
      iexact Hu
    isplitl [Hod]
    · iapply (rows_map iprop(emp) (fun k => pt c (dst c k) fullShare fo) _ (fun k => by iintro ⟨-, H⟩; iexists fo; iexact H) l9)
      isplitr; · iempintro
      iexact Hod
    iexact HtSt
  ihave HS2 := (Entails.of_eq (rows_nine (stageIn A B c))) $$ HS
  icases HS2 with ⟨HS, HS7, HS8⟩
  -- seven of them forwarded
  iapply (loop c (ctx A B G N c) (fun k K => stage c (up k) (fwd c k K)) (fun l => iprop(owing c (owesY c l) ∗ pt c gM fullShare (G c)))
    (fun k => iprop(stageIn A B c (up k) ∗ fwdIn c k)) (fun k => iprop(stageOut A B c (up k) ∗ due c (.sb k))) Q
    (fun k l K => by
      iintro ⟨#HX, HS, ⟨Hi, Hf⟩, HK⟩
      iapply (stage_chunk A B G N c (up k) (owesY_above c (k :: l) (by decide)) _ Q)
      isplitr; · iexact HX
      isplitl [HS]; · iexact HS
      isplitl [Hi]; · iexact Hi
      iintro ⟨⟨HO, HG⟩, Ho, Hu⟩
      iapply (fwd_chunk A B G N c k l K Q)
      isplitr; · iexact HX
      isplitl [HO]; · iexact HO
      isplitl [Hf]; · iexact Hf
      isplitl [Hu]; · iexact Hu
      iintro ⟨HO, Hd⟩
      iapply HK
      isplitl [HO HG]; · isplitl [HO] <;> iassumption
      isplitl [Ho] <;> iassumption) l7 _)
  isplitr; · iexact HX
  isplitl [HO HG]; · isplitl [HO] <;> iassumption
  isplitl [HS HLY HtSb HtRb]
  · rw [rows_pair]
    isplitl [HS]; · iexact HS
    unfold fwdIn
    rw [rows_pair, rows_pair]
    isplitl [HLY]; · iexact HLY
    isplitl [HtSb]; · iexact HtSb
    iexact HtRb
  rw [show owesY c [] = 0 from rfl, rows_pair]
  iintro ⟨HS, HR, HcSb⟩
  -- the last two kept
  iapply (stage_chunk A B G N c 7 (Above.zero 2) _ Q)
  isplitr; · iexact HX
  isplitl [HS]; · iexact HS
  isplitl [HS7]; · iexact HS7
  iintro ⟨HS, HR7, Hu7⟩
  iapply (stage_chunk A B G N c 8 (Above.zero 2) _ Q)
  isplitr; · iexact HX
  isplitl [HS]; · iexact HS
  isplitl [HS8]; · iexact HS8
  iintro ⟨⟨HO, HG⟩, HR8, Hu8⟩
  ihave HR := (Entails.of_eq ((rows_nine (stageOut A B c)).symm.trans (stageOut_rows A B c))) $$ [HR HR7 HR8]
  · isplitl [HR]; · iexact HR
    isplitl [HR7] <;> iassumption
  icases HR with ⟨HsRa, HC, Hpl, Hr, HcSt⟩
  -- the closing waits
  iapply (loop c (ctx A B G N c) (closeA c) (fun _ => owing c 0) (closeAIn c) (closeAOut A B G c) Q
    (fun k _ K => closeA_chunk A B G N c k K Q) l9 _)
  isplitr; · iexact HX
  isplitl [HO]; · iexact HO
  isplitl [HcSa HfSa HcSt HfSt]
  · unfold closeAIn
    rw [rows_pair, rows_pair, rows_pair]
    isplitl [HcSa]; · iexact HcSa
    isplitl [HfSa]; · iexact HfSa
    isplitl [HcSt] <;> iassumption
  unfold closeAOut
  rw [rows_pair, rows_pair, rows_pair, rows_pair]
  iintro ⟨HO, Hpr, ⟨Hod, Hul⟩, HsSa, HsSt⟩
  iapply (loop c (ctx A B G N c) (closeB c) (fun _ => owing c 0) (closeBIn c) (closeBOut A B G c) Q
    (fun k _ K => closeB_chunk A B G N c k K Q) l7 _)
  isplitr; · iexact HX
  isplitl [HO]; · iexact HO
  isplitl [HcSb HfSb HcRb HfRb]
  · unfold closeBIn
    rw [rows_pair, rows_pair, rows_pair]
    isplitl [HcSb]; · iexact HcSb
    isplitl [HfSb]; · iexact HfSb
    isplitl [HcRb] <;> iassumption
  unfold closeBOut
  rw [rows_pair, rows_pair, rows_pair]
  iintro ⟨HO, Hur, Hof, HsSb, HsRb⟩
  unfold runs
  rw [wp_ret]
  imodintro
  iapply HK
  unfold talkOut
  isplitl [HO]; · iexact HO
  isplitl [HsB Hs0 Hs1 Hs2 Hs3 HsSt HsSa HsRa HsSb HsRb]
  · isplitl [HsB]; · iexact HsB
    rw [rows_own, rows_four]
    isplitl [Hs0 Hs1 Hs2 Hs3]
    · isplitl [Hs0]; · iexact Hs0
      isplitl [Hs1]; · iexact Hs1
      isplitl [Hs2] <;> iassumption
    isplitl [HsSt]; · iexact HsSt
    isplitl [HsSa]; · iexact HsSa
    isplitl [HsRa]; · iexact HsRa
    isplitl [HsSb] <;> iassumption
  isplitl [HA1 HA1r HA2 HA2r HB1 HB1r HB2 HB2r HG Hod Hof]
  · isplitl [HA1 HA1r HA2 HA2r]
    · iapply (Entails.of_eq (pt_shares c aM (A c)).symm)
      isplitl [HA1 HA1r]
      · iapply (Entails.of_eq (held_part (sub_whole (sp := .hbm) main_arg0 (src0 c).view.set) fullShare.left (A c)).symm)
        isplitl [HA1] <;> iassumption
      · iapply (Entails.of_eq (held_part (sub_whole (sp := .hbm) main_arg0 (src1 c).view.set) fullShare.right (A c)).symm)
        isplitl [HA2] <;> iassumption
    isplitl [HB1 HB1r HB2 HB2r]
    · iapply (Entails.of_eq (pt_shares c bM (B c)).symm)
      isplitl [HB1 HB1r]
      · iapply (Entails.of_eq (held_part (sub_whole (sp := .hbm) main_arg1 (src2 c).view.set) fullShare.left (B c)).symm)
        isplitl [HB1] <;> iassumption
      · iapply (Entails.of_eq (held_part (sub_whole (sp := .hbm) main_arg1 (src3 c).view.set) fullShare.right (B c)).symm)
        isplitl [HB2] <;> iassumption
    isplitl [HG]; · iexact HG
    iapply (Entails.of_eq (pt_result c fullShare (resF A B G c)).symm)
    isplitl [Hod] <;> iassumption
  isplitl [Hpl Hpr]
  · iexists psF A c
    iapply (Entails.of_eq (pt_shares c pM (psF A c)).symm)
    isplitl [Hpl]
    · iapply (Entails.of_eq (pt_chunks_p c fullShare.left (psF A c)).symm) $$ Hpl
    · iapply (Entails.of_eq (pt_chunks_p c fullShare.right (psF A c)).symm) $$ Hpr
  isplitl [Hr]
  · iexists rsF B c
    iapply (Entails.of_eq (pt_chunks_r c fullShare (rsF B c)).symm) $$ Hr
  isplitl [HC]
  · iexists psF A (xn c)
    iapply (Entails.of_eq (pt_chunks_c c fullShare (psF A (xn c))).symm) $$ HC
  iexists outF A B G c
  iapply (Entails.of_eq (pt_shares c uM (outF A B G c)).symm)
  isplitl [Hul]
  · iapply (Entails.of_eq (pt_chunks_u c fullShare.left (outF A B G c)).symm) $$ Hul
  · iapply (Entails.of_eq ((pt_chunks_u c fullShare.right (outF A B G c)).trans (rows_nine _)).symm)
    isplitl [Hur]; · iexact Hur
    isplitl [Hu7] <;> iassumption

end Cert.KernelIdealRun

end
-- ==== Proof.KernelIdealRun.Deal.lean ====
/-
  What a launch hands out: the cells, the tokens of the raises, and the credit for what a device will be sent.
-/
module

public import proofs.«01_k».proof.Proof.KernelIdealRun.Talk

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem all_univ : (Finset.univ : Finset Cell) = Cell.all.toFinset :=
  Finset.ext fun κ => ⟨fun _ => List.mem_toFinset.mpr (Cell.mem_all κ), fun _ => Finset.mem_univ κ⟩
theorem own_nodup : Cell.own.Nodup := by decide

/-- The cells of a device that live only in the kernel: all but the barrier. -/
abbrev Own : Type := {κ : Cell // κ ∈ Cell.own.toFinset}
/-- The semaphore of each. -/
def osem (κ : Own) : SemLoc sig := κ.1.sem

/-- Over all of them is over the list. -/
theorem own_univ (Φ : Cell → sProp 𝕄) : bigSep (Finset.univ : Finset Own) (fun κ => Φ κ.1) = bigSepL Cell.own Φ := by
  have h : (Finset.univ : Finset Own).map (Function.Embedding.subtype _) = Cell.own.toFinset := by
    ext κ
    rw [Finset.mem_map]
    exact ⟨fun ⟨y, _, e⟩ => e ▸ y.2, fun hκ => ⟨⟨κ, hκ⟩, Finset.mem_univ _, rfl⟩⟩
  exact (bigSep_map (Function.Embedding.subtype _) (Φ := Φ)).symm.trans
    ((congrArg (fun s => bigSep s Φ) h).trans (bigSep_eq_bigSepL Cell.own own_nodup Φ))

theorem own_sems (c : Dev nD) : (Pipeline.ownSems0 osem c : sProp 𝕄) = bigSepL Cell.own fun κ => semVal (cell c κ) 0 :=
  own_univ fun κ => semVal (cell c κ) 0

/-- They are the kernel's own: scoped, distinct, none the staging buffer's. -/
theorem own_facts : Pipeline.OwnSemFacts spec0 osem where
  isScoped κ := (by decide : ∀ κ ∈ Cell.own, κ.sem.isScoped .tc = true) κ.1 (List.mem_toFinset.mp κ.2)
  inj _ _ h := Subtype.ext (Cell.sem_injective h)
  disj κ w s := (by decide : ∀ κ ∈ Cell.own, ∀ (w : Fin 1) (s : Fin (spec0 w).nbuf), κ.sem ≠ .dma ((spec0 w).sem s)) κ.1 (List.mem_toFinset.mp κ.2) w s

def barEmb : Dev nD ↪ GSem nD τ sig := ⟨fun c => cell c .bar, fun _ _ h => congrArg (fun g : GSem nD τ sig => g.1.1) h⟩
def ownEmb : Dev nD × Own ↪ GSem nD τ sig := ⟨fun p => cell p.1 p.2.1, fun p q h => by
  have e := cell_injective (a₁ := (p.1, p.2.1)) (a₂ := (q.1, q.2.1)) h
  exact Prod.ext (congrArg (fun x : Dev nD × Cell => x.1) e) (Subtype.ext (congrArg (fun x : Dev nD × Cell => x.2) e))⟩
def cellEmb : Dev nD × Cell ↪ GSem nD τ sig := ⟨fun p => cell p.1 p.2, cell_injective⟩
def tokEmb : Dev nD × (Cell × Bool) ↪ GSem nD τ sig × ℕ × Bool := ⟨fun p => (cell p.1 p.2.1, 0, p.2.2), fun p q h => by
  have e := cell_injective (a₁ := (p.1, p.2.1)) (a₂ := (q.1, q.2.1)) (congrArg Prod.fst h)
  exact Prod.ext (congrArg (fun x : Dev nD × Cell => x.1) e)
    (Prod.ext (congrArg (fun x : Dev nD × Cell => x.2) e) (congrArg (fun x : GSem nD τ sig × ℕ × Bool => x.2.2) h))⟩

/-- The barriers, the cells of the kernel's own, and a token for every raise. -/
abbrev barCells : Finset (GSem nD τ sig) := Finset.univ.map barEmb
abbrev ownCells : Finset (GSem nD τ sig) := Finset.univ.map ownEmb
abbrev toks : Finset (GSem nD τ sig × ℕ × Bool) := Finset.univ.map tokEmb

theorem cells_disjoint : Disjoint barCells ownCells := by
  rw [Finset.disjoint_left]
  intro g h₁ h₂
  obtain ⟨c, -, rfl⟩ := Finset.mem_map.mp h₁
  obtain ⟨p, -, h⟩ := Finset.mem_map.mp h₂
  have e : p.2.1 = .bar := Cell.sem_injective (congrArg Prod.snd h)
  exact (by decide : Cell.bar ∉ Cell.own) (e ▸ List.mem_toFinset.mp p.2.2)

theorem cells_all : barCells ∪ ownCells = Finset.univ.map cellEmb := by
  ext g
  constructor
  · intro h
    rcases Finset.mem_union.mp h with h | h
    · obtain ⟨c, -, rfl⟩ := Finset.mem_map.mp h
      exact Finset.mem_map_of_mem cellEmb (Finset.mem_univ (c, .bar))
    · obtain ⟨p, -, rfl⟩ := Finset.mem_map.mp h
      exact Finset.mem_map_of_mem cellEmb (Finset.mem_univ (p.1, p.2.1))
  · intro h
    obtain ⟨⟨c, κ⟩, -, rfl⟩ := Finset.mem_map.mp h
    by_cases hκ : κ = .bar
    · subst hκ
      exact Finset.mem_union_left _ (Finset.mem_map_of_mem barEmb (Finset.mem_univ c))
    · exact Finset.mem_union_right _ (Finset.mem_map_of_mem ownEmb (Finset.mem_univ (c, (⟨κ, mem_own hκ⟩ : Own))))

/-! ## Who raises which cell -/

/-- The device whose cell a device raises: the partners' barriers, and what `payee` says. -/
def mate (c : Dev nD) : Cell × Bool → Dev nD
  | (.bar, false) => xn c
  | (.bar, true) => yn c
  | (κ, _) => payee c κ

theorem mate_mate (c : Dev nD) (t : Cell × Bool) : mate (mate c t) t = c := by
  obtain ⟨κ, b⟩ := t
  cases κ with
  | bar => cases b
           · exact xn_xn c
           · exact yn_yn c
  | ra k => exact xn_xn c
  | rb k => exact yn_yn c
  | cp i => rfl
  | st k => rfl
  | sa k => rfl
  | sb k => rfl

/-- Every token against the device that pays with it. -/
def mates : Dev nD × (Cell × Bool) ≃ Dev nD × (Cell × Bool) :=
  Function.Involutive.toPerm (fun p => (mate p.1 p.2, p.2)) fun p => Prod.ext (mate_mate p.1 p.2) rfl

/-- The tokens of the raises that device `c` makes. -/
def paid (c : Dev nD) : sProp 𝕄 :=
  iprop(dutyTok ER (cell (xn c) .bar) 0 false ∗ dutyTok ER (cell (yn c) .bar) 0 true ∗ bigSepL Cell.own (fun κ => duty (payee c κ) κ))

/-- Among a device's tokens are those of its raises. -/
theorem paid_of (c : Dev nD) : (bigSep Finset.univ fun t : Cell × Bool => (dutyTok ER (cell (mate c t) t.1) 0 t.2 : sProp 𝕄)) ⊢ paid c := by
  unfold paid
  rw [bigSep_univ_prod, bigSep_univ_eq_bigSepL Cell.all all_univ Cell.all_nodup]
  unfold Cell.all
  rw [bigSepL_cons']
  have h0 (κ : Cell) : (bigSep Finset.univ fun b : Bool => (dutyTok ER (cell (mate c (κ, b)) κ) 0 b : sProp 𝕄))
      = iprop(dutyTok ER (cell (mate c (κ, false)) κ) 0 false ∗ dutyTok ER (cell (mate c (κ, true)) κ) 0 true) := by
    rw [bigSep_univ_eq_bigSepL [false, true] (by decide) (by decide), bigSepL_cons_cons, bigSepL_singleton]
    rfl
  have h1 : (bigSepL Cell.own fun κ => bigSep Finset.univ fun b : Bool => (dutyTok ER (cell (mate c (κ, b)) κ) 0 b : sProp 𝕄))
      ⊢ bigSepL Cell.own fun κ => duty (payee c κ) κ := bigSepL_mono fun κ hκ => by
    have e : mate c (κ, false) = payee c κ := by
      cases κ with
      | bar => exact absurd hκ (by decide)
      | cp i => rfl
      | st k => rfl
      | sa k => rfl
      | ra k => rfl
      | sb k => rfl
      | rb k => rfl
    rw [h0, e]
    iintro ⟨H, -⟩
    iexact H
  iintro ⟨Hb, Ho⟩
  ihave Hb := (Entails.of_eq (h0 .bar)) $$ Hb
  icases Hb with ⟨Hx, Hy⟩
  isplitl [Hx]; · iexact Hx
  isplitl [Hy]; · iexact Hy
  iapply h1 $$ Ho

/-- All the tokens, each to the device that pays with it. -/
theorem toks_paid : bigSep toks (fun x => (dutyTok ER x.1 x.2.1 x.2.2 : sProp 𝕄)) ⊢ bigSep Finset.univ fun c : Dev nD => paid c := by
  unfold toks
  rw [bigSep_map, bigSep_univ_equiv mates, bigSep_univ_prod]
  exact bigSep_mono fun c _ => paid_of c

/-! ## The credit -/

theorem tally_at (d c : Dev nD) (κ κ' : Cell) (a : ℕ) :
    (tallyAt (cell d κ') () a : CellTallies nD τ sig Unit) (cell c κ) () = if d = c ∧ κ = κ' then a else 0 := by
  rw [tallyAt_apply]
  refine if_congr ⟨fun ⟨h, _⟩ => ?_, fun ⟨h, h'⟩ => ⟨by rw [h, h'], rfl⟩⟩ rfl rfl
  have e := cell_injective (a₁ := (c, κ)) (a₂ := (d, κ')) h
  exact ⟨(congrArg (fun x : Dev nD × Cell => x.1) e).symm, congrArg (fun x : Dev nD × Cell => x.2) e⟩

theorem owesX_at (d c : Dev nD) (κ : Cell) : ∀ l : List (Fin 9),
    owesX d l (cell c κ) () = (l.map fun k => if xn d = c ∧ κ = .ra k then crd k else 0).sum
  | [] => rfl
  | k :: l => by
    unfold owesX
    rw [List.map_cons, List.map_cons, List.sum_cons, List.sum_cons, Pi.add_apply, Finsupp.add_apply, tally_at]
    exact congrArg _ (owesX_at d c κ l)
theorem owesY_at (d c : Dev nD) (κ : Cell) : ∀ l : List (Fin 7),
    owesY d l (cell c κ) () = (l.map fun k => if yn d = c ∧ κ = .rb k then crd (up k) else 0).sum
  | [] => rfl
  | k :: l => by
    unfold owesY
    rw [List.map_cons, List.map_cons, List.sum_cons, List.sum_cons, Pi.add_apply, Finsupp.add_apply, tally_at]
    exact congrArg _ (owesY_at d c κ l)

/-- The cells a device is sent to, and how much in all. -/
def sent : List Cell := .bar :: (l9.map .ra ++ l7.map .rb)
theorem sent_nodup : sent.Nodup := by decide
def total : Cell → ℕ
  | .bar => 2
  | κ => κ.amt

theorem xn_iff (d c : Dev nD) : xn d = c ↔ d = xn c := ⟨fun h => by rw [← h, xn_xn], fun h => by rw [h, xn_xn]⟩
theorem yn_iff (d c : Dev nD) : yn d = c ↔ d = yn c := ⟨fun h => by rw [← h, yn_yn], fun h => by rw [h, yn_yn]⟩

theorem owed_bar (c : Dev nD) : ∑ d : Dev nD, owesAll d (cell c .bar) () = 2 := by
  have e (d : Dev nD) : owesAll d (cell c .bar) () = (if d = yn c then 1 else 0) + if d = xn c then 1 else 0 := by
    unfold owesAll
    simp only [Pi.add_apply, Finsupp.add_apply, owesX_at, owesY_at, tally_at, xn_iff, yn_iff]
    simp
  rw [Finset.sum_congr rfl fun d _ => e d, Finset.sum_add_distrib, Finset.sum_ite_eq' Finset.univ (yn c) fun _ => 1,
    Finset.sum_ite_eq' Finset.univ (xn c) fun _ => 1, if_pos (Finset.mem_univ _), if_pos (Finset.mem_univ _)]

theorem owed_ra (c : Dev nD) (k : Fin 9) : ∑ d : Dev nD, owesAll d (cell c (.ra k)) () = crd k := by
  have e (d : Dev nD) : owesAll d (cell c (.ra k)) () = if d = xn c then crd k else 0 := by
    unfold owesAll
    simp only [Pi.add_apply, Finsupp.add_apply, owesX_at, owesY_at, tally_at, xn_iff]
    by_cases h : d = xn c
    · simp only [h, true_and, if_true]
      fin_cases k <;> simp
    · simp [h]
  rw [Finset.sum_congr rfl fun d _ => e d, Finset.sum_ite_eq' Finset.univ (xn c) fun _ => crd k, if_pos (Finset.mem_univ _)]

theorem owed_rb (c : Dev nD) (k : Fin 7) : ∑ d : Dev nD, owesAll d (cell c (.rb k)) () = crd (up k) := by
  have e (d : Dev nD) : owesAll d (cell c (.rb k)) () = if d = yn c then crd (up k) else 0 := by
    unfold owesAll
    simp only [Pi.add_apply, Finsupp.add_apply, owesX_at, owesY_at, tally_at, yn_iff]
    by_cases h : d = yn c
    · simp only [h, true_and, if_true]
      fin_cases k <;> simp
    · simp [h]
  rw [Finset.sum_congr rfl fun d _ => e d, Finset.sum_ite_eq' Finset.univ (yn c) fun _ => crd (up k), if_pos (Finset.mem_univ _)]

theorem owed_total (c : Dev nD) (κ : Cell) (h : κ ∈ sent) : ∑ d : Dev nD, owesAll d (cell c κ) () = total κ := by
  cases κ with
  | bar => exact owed_bar c
  | ra k => exact owed_ra c k
  | rb k => exact owed_rb c k
  | cp i => exact absurd h (by revert i; decide)
  | st k => exact absurd h (by revert k; decide)
  | sa k => exact absurd h (by revert k; decide)
  | sb k => exact absurd h (by revert k; decide)

theorem launch_credit (c : Dev nD) (κ : Cell) (h : κ ∈ sent) :
    tallyOn (cell c κ) (launchCredit (Pipeline.owing owesAll) 0 (cell c κ)) = (tallyAt (cell c κ) () (total κ) : CellTallies nD τ sig Unit) := by
  unfold tallyAt
  refine congrArg _ (Finsupp.ext fun u => ?_)
  cases u
  rw [Pipeline.launchCredit_owing, Finsupp.single_eq_same, owed_total c κ h]

/-- What a device may expect: two raises of its barrier, nine chunks along x, seven along y. -/
def expected (c : Dev nD) : sProp 𝕄 :=
  iprop(cred (tallyAt (cell c .bar) () 2) ∗ bigSepL l9 (fun k => due c (.ra k)) ∗ bigSepL l7 (fun k => due c (.rb k)))

/-- Among the pieces for all of a finite type are those for a list without repetition. -/
theorem among {I J : Type} [Fintype J] [DecidableEq J] (e : I → J) (he : Function.Injective e) (l : List I) (hl : l.Nodup) (Ψ : J → sProp 𝕄) :
    bigSep Finset.univ Ψ ⊢ bigSepL l fun i => Ψ (e i) :=
  (bigSep_subset (t := (l.map e).toFinset) (Finset.subset_univ _)).trans
    (Entails.of_eq ((bigSep_eq_bigSepL (l.map e) (hl.map he) Ψ).trans (bigSepL_map ..)))

theorem creds (c : Dev nD) : (Pipeline.launchCred owesAll c : sProp 𝕄) ⊢ expected c := by
  have h1 : (Pipeline.launchCred owesAll c : sProp 𝕄)
      ⊢ bigSepL sent fun κ => cred (tallyOn (cell c κ) (launchCredit (Pipeline.owing owesAll) 0 (cell c κ))) :=
    among Cell.sem Cell.sem_injective sent sent_nodup
      fun sm => (cred (tallyOn ((c : Thread nD τ), sm) (launchCredit (Pipeline.owing owesAll) 0 ((c : Thread nD τ), sm))) : sProp 𝕄)
  refine h1.trans ((bigSepL_mono (Ψ := fun κ => cred (tallyAt (cell c κ) () (total κ))) fun κ hκ => Entails.of_eq (by rw [launch_credit c κ hκ])).trans ?_)
  unfold sent expected
  rw [bigSepL_cons', bigSepL_append, bigSepL_map, bigSepL_map]
  exact .rfl

/-! ## What rides with a device from the launch to the kernel -/

variable (A : Dev nD → S1x512x512.Idx → Elt F .f32) (B : Dev nD → S512x512.Idx → Elt F .f32) (G : Dev nD → Vec F S1x512 .f32)

/-- The records, under some names; the device's position at its barrier and the right to open each of its own cells; its raises' tokens;
    the credit. -/
def start (c : Dev nD) : sProp 𝕄 :=
  iprop((∃ N, recs A B G N) ∗ (fresh c .bar ∗ bigSepL Cell.own (fun κ => openTok ER (cell c κ))) ∗ paid c ∗ expected c)

/-- The same with the cells open. -/
def started (c : Dev nD) : sProp 𝕄 :=
  iprop((∃ N, ctx A B G N c) ∗ (fresh c .bar ∗ bigSepL Cell.own (fun κ => fresh c κ)) ∗ paid c ∗ expected c)

theorem recs_inv (N : GSem nD τ sig → ℕ) (d : Dev nD) (κ : Cell) : recs A B G N ⊢ cellInv ER (Rd A B G) (N (cell d κ)) (cell d κ) := by
  unfold recs
  iintro ⟨H, -⟩
  iapply (bigSep_at (Finset.mem_univ ((d, κ) : Dev nD × Cell)) (Φ := fun p : Dev nD × Cell => (cellInv ER (Rd A B G) (N (cell p.1 p.2)) (cell p.1 p.2) : sProp 𝕄)))
  iexact H

/-- Cells opened one after the other. -/
theorem open_rows (N : GSem nD τ sig → ℕ) (c : Dev nD) : ∀ l : List Cell,
    iprop(recs A B G N ∗ bigSepL l (fun κ => openTok ER (cell c κ)) ∗ bigSepL l (fun κ => semVal (cell c κ) 0))
      ⊢ (|={Set.univ}=> iprop(bigSepL l (fun κ => fresh c κ) ∗ bigSepL l (fun κ => reached ER (cell c κ) 0)) : sProp 𝕄)
  | [] => by
    rw [bigSepL_nil, bigSepL_nil, bigSepL_nil, bigSepL_nil]
    iintro -
    imodintro
    isplitl <;> iempintro
  | κ :: l => by
    rw [bigSepL_cons', bigSepL_cons', bigSepL_cons', bigSepL_cons']
    iintro ⟨#HR, ⟨Ho, Hos⟩, Hv, Hvs⟩
    imod (Rounds.cell_open ER (Rd A B G) (g := cell c κ) (Set.mem_univ (N (cell c κ)))) $$ [Ho Hv] with ⟨Ha, Hr⟩
    · isplitr; · iapply (recs_inv A B G N c κ); iexact HR
      isplitl [Ho] <;> iassumption
    imod (open_rows N c l) $$ [Hos Hvs] with ⟨Has, Hrs⟩
    · isplitr; · iexact HR
      isplitl [Hos] <;> iassumption
    imodintro
    isplitl [Ha Has]
    · isplitl [Ha] <;> iassumption
    isplitl [Hr] <;> iassumption

/-- At the kernel's entry its own cells are opened. -/
theorem opening (c : Dev nD) : iprop(start A B G c ∗ Pipeline.ownSems0 osem c ∗ levAts idx lv) ⊢ (|={Set.univ}=> started A B G c : sProp 𝕄) := by
  rw [own_sems]
  unfold start started ctx
  rw [bigSep_eq_bigSepL Cell.own own_nodup]
  iintro ⟨⟨⟨%N, #HR⟩, ⟨Hf, Ho⟩, Hp, He⟩, Hs, #HL⟩
  imod (open_rows A B G N c Cell.own) $$ [Ho Hs] with ⟨Ha, Hr⟩
  · isplitr; · iexact HR
    isplitl [Ho] <;> iassumption
  imodintro
  isplitl [Hr]
  · iexists N
    isplitr; · iexact HR
    isplitr; · iexact HL
    iexact Hr
  isplitl [Hf Ha]
  · isplitl [Hf] <;> iassumption
  isplitl [Hp] <;> iassumption

end Cert.KernelIdealRun

end
-- ==== Proof.KernelIdealRun.Launch.lean ====
/-
  The whole program from its launch: the scaling row laid out by the host, the kernel on every device, and what memory and
  semaphores hold at the end.
-/
module

public import proofs.«01_k».proof.Proof.Gen.KernelIdeal.Frame
public import proofs.«01_k».proof.Proof.KernelIdealRun.Deal
public import Idealize.ShloMosaic.Lib.Pipeline.RegionTalk

@[expose] public section

set_option maxRecDepth 16384

noncomputable section

namespace Cert.KernelIdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What each device is given -/

/-- The partial sums, the residual and the scaling row of a device. -/
abbrev parts (c : Dev nD) : S1x512x512.Idx → Elt F .f32 := m ((c : Thread nD τ).loc main_arg0)
abbrev resid (c : Dev nD) : S512x512.Idx → Elt F .f32 := m ((c : Thread nD τ).loc main_arg1)
abbrev gains (c : Dev nD) : Vec F S1x512 .f32 := iblk m c 0 t0_0

/-- What a device ends with. -/
abbrev result (c : Dev nD) : S512x512.Idx → Elt F .f32 := resF (parts m) (resid m) (gains m) c

/-- A device's buffers at launch, after the host's row, and at the end. -/
abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := Function.update (V₁ m c) (Proc.devRef .tc main_v2) (result m c)

theorem V₂_v2 (c : Dev nD) : V₂ m c main_v2 = result m c := Function.update_self ..
theorem V₂_of_ne (c : Dev nD) (b : Ref sig .tc) (h : (Proc.devRef .tc b : DevRef τ sig) ≠ Proc.devRef .tc main_v2) : V₂ m c b = V m c b :=
  Function.update_of_ne h ..

/-- A buffer of device `c`, whole. -/
abbrev pl (c : Dev nD) (b : Ref sig .tc) (f : Buf (Elt F) ((c : Thread nD τ).loc b)) : sProp 𝕄 := ((c : Thread nD τ).loc b) ↦{fullShare} f

theorem whole_pl (c : Dev nD) (b : Ref sig .tc) (f : Buf (Elt F) ((c : Thread nD τ).loc b)) :
    pt c (Memref.whole b) fullShare f = (pl c b f : sProp 𝕄) := by
  unfold pt pl
  simp only [Memref.view_whole, View.set_whole]

/-- The buffers the kernel takes as they lie: all but the scaling row. -/
abbrev kept : Finset (DevRef τ sig) := [Proc.devRef .tc main_arg0, Proc.devRef .tc main_arg1, Proc.devRef .tc main_arg2, Proc.devRef .tc main_v2].toFinset

theorem held_kept (c : Dev nD) (W : Valuation τ sig (Elt F)) : (StableHlo.held (c : Thread nD τ) kept W : sProp 𝕄)
    = iprop(pl c main_arg0 (W main_arg0) ∗ pl c main_arg1 (W main_arg1) ∗ pl c main_arg2 (W main_arg2) ∗ pl c main_v2 (W main_v2)) := by
  unfold StableHlo.held
  rw [bigSep_eq_bigSepL_of_eq [Proc.devRef .tc main_arg0, Proc.devRef .tc main_arg1, Proc.devRef .tc main_arg2, Proc.devRef .tc main_v2] rfl (by decide)]
  rfl

theorem refs_split : Pipeline.ucRefs τ sig = Pipeline.arrRefs (τ := τ) spec0 ∪ kept := by decide
theorem refs_apart : Disjoint (Pipeline.arrRefs (τ := τ) spec0) kept := by decide

theorem held_all (c : Dev nD) (W : Valuation τ sig (Elt F)) : (StableHlo.held (c : Thread nD τ) (Pipeline.ucRefs τ sig) W : sProp 𝕄)
    = iprop(StableHlo.held (c : Thread nD τ) (Pipeline.arrRefs (τ := τ) spec0) W ∗ StableHlo.held (c : Thread nD τ) kept W) := by
  unfold StableHlo.held
  rw [refs_split, bigSep_union refs_apart]
  rfl

/-- The kernel's scratch, at contents not chosen. -/
def scratch (c : Dev nD) : sProp 𝕄 :=
  iprop((∃ f, pt c pM fullShare f) ∗ (∃ f, pt c rM fullShare f) ∗ (∃ f, pt c cM fullShare f) ∗ ∃ f, pt c uM fullShare f)

theorem scratch_eq (c : Dev nD) : (Pipeline.scopedRest spec0 c : sProp 𝕄) = scratch c := by
  unfold scratch
  rw [scopedRest0_eq]
  unfold pt
  simp only [Memref.view_whole, View.set_whole]

/-! ## The kernel as one point of a pipeline -/

/-- Its state before the point. -/
def before (c : Dev nD) : sProp 𝕄 :=
  iprop(started (parts m) (resid m) (gains m) c
    ∗ (pl c main_arg0 (parts m c) ∗ pl c main_arg1 (resid m c) ∗ pl c main_arg2 (V m c main_arg2) ∗ ∃ f, pl c main_v2 f)
    ∗ scratch c ∗ ∃ r, prngReg c r)
/-- And after it. -/
def after (c : Dev nD) : sProp 𝕄 :=
  iprop((semVal (cell c .bar) 0 ∗ bigSepL Cell.own (fun κ => semVal (cell c κ) 0))
    ∗ (pl c main_arg0 (parts m c) ∗ pl c main_arg1 (resid m c) ∗ pl c main_arg2 (V m c main_arg2) ∗ pl c main_v2 (result m c))
    ∗ scratch c ∗ ∃ r, prngReg c r)

def dat0 (c : Dev nD) : Dat τ (Elt F) Unit ℕ UU ℕ cfg0 c where
  A w := V m c (Pipeline.arrRef spec0 w)
  after w _ := match w with | ⟨0, _⟩ => gains m c
  Φ t := if t.val = 0 then before m c else after m c
  q _ := fullShare
  owed t := if t.val = 0 then owesAll c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = owesAll c := by
  show (if (t0_0.castSucc : Fin (cfg0.N + 1)).val = 0 then owesAll c else 0) = owesAll c
  exact if_pos rfl
theorem owed_zero (c : Dev nD) : (pdats m 0 c).owed 0 = owesAll c := by
  show (if ((0 : Fin (cfg0.N + 1)).val = 0) then owesAll c else 0) = owesAll c
  exact if_pos rfl
theorem owed_last (c : Dev nD) : (pdats m 0 c).owed (Fin.last _) = 0 := by
  show (if (Fin.last cfg0.N).val = 0 then owesAll c else 0) = 0
  rw [Fin.val_last, if_neg (by rw [show cfg0.N = 1 from N_0]; decide)]

theorem before_in (c : Dev nD) (d : (cfg0.win 0).block.Idx → Elt F (cfg0.win 0).elt) : (dat0 m c).before 0 t0_0 d = iblk m c 0 t0_0 := by
  unfold Dat.before; rw [if_pos (by decide)]; rfl

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ pl c b f) := by
  unfold owns pl
  simp only [Memref.view_whole, View.read_whole, View.set_whole]

/-- What the core owes at a boundary, taken out and put back. -/
theorem owing_out (c : Dev nD) (t : Fin (cfg0.N + 1)) {O : CellTallies nD τ sig Unit} (h : (dat0 m c).owed t = O) :
    ((dat0 m c).owesAt () t : sProp 𝕄) ⊢ owing c O := by
  unfold Dat.owesAt Pipeline.owesWithin owing
  rw [h]
  iintro ⟨%W, -, H⟩
  iexists W
  iexact H
theorem owing_in (c : Dev nD) (t : Fin (cfg0.N + 1)) {O : CellTallies nD τ sig Unit} (h : (dat0 m c).owed t = O) :
    (owing c O : sProp 𝕄) ⊢ (dat0 m c).owesAt () t := by
  unfold Dat.owesAt Pipeline.owesWithin owing
  rw [h]
  iintro ⟨%W, H⟩
  iexists W
  isplitr; · ipureintro; exact fun _ _ => Or.inl trivial
  iexact H

/-- The kernel's body, entered with the staged row, does what a pipeline's body must. -/
theorem body_obligation (c : Dev nD) : BodyObligation (dat0 m c) (defs₀ (F := F)) 𝒱₀ () Set.univ := fun t => by
  obtain rfl := fin_N0 t
  rw [bigSep_W0, bigSep_W0]
  simp only [owns_whole]
  rw [show (dat0 m c).Φ t0_0.castSucc = before m c from rfl, show (dat0 m c).Φ t0_0.succ = after m c from rfl]
  show _ ⊢ runs c (bodyAt0 (F := F) t0_0) _
  rw [body_eq]
  unfold before after started scratch paid expected
  iintro ⟨⟨⟨⟨%N, #HX⟩, Hf, Hp, He⟩, ⟨Ha, Hb, H2, ⟨%fo, Ho⟩⟩, Hs, Hr⟩, HO, ⟨%d0, %f0, %hf0, H0⟩⟩
  rw [before_in] at hf0
  subst hf0
  ihave HO := (owing_out m c _ (owed_first m c)) $$ HO
  iapply (talk_run (parts m) (resid m) (gains m) N c _)
  isplitr; · iexact HX
  isplitl [Hf Hp He Ha Hb Ho Hs HO H0]
  · unfold talkIn
    isplitl [HO]; · iexact HO
    isplitl [He]; · iexact He
    isplitl [Hp]; · iexact Hp
    isplitl [Hf]; · iexact Hf
    isplitr [Hs]
    · isplitl [Ha]; · rw [whole_pl]; iexact Ha
      isplitl [Hb]; · rw [whole_pl]; iexact Hb
      isplitl [H0]; · rw [whole_pl]; iexact H0
      iexists fo
      rw [whole_pl]; iexact Ho
    iexact Hs
  unfold talkOut
  rw [whole_pl, whole_pl, whole_pl, whole_pl]
  iintro ⟨HO, Hv, ⟨Ha, Hb, H0, Ho⟩, Hs⟩
  isplitl [Hv Ha Hb Ho H2 Hs Hr]
  · isplitl [Hv]; · iexact Hv
    isplitl [Ha Hb Ho H2]
    · isplitl [Ha]; · iexact Ha
      isplitl [Hb]; · iexact Hb
      isplitl [H2]; · iexact H2
      iexact Ho
    isplitl [Hs]; · iexact Hs
    iexact Hr
  isplitl [HO]; · iapply (owing_in m c t0_0.succ (owed_last m c)) $$ HO
  iexists _
  isplitr; swap; (· iexact H0)
  ipureintro; rfl

/-! ## The kernel among the program's segments -/

local notation "ℍ" => Pipeline.HostSeg (Name := ℕ) (U := UU) (pcfgs (F := F)) defs₀ 𝒱₀ idx lv
local notation "ℝ𝕊" => Pipeline.RegionSeg (pcfgs (F := F)) adm (pdats m) () defs₀ 𝒱₀ idx lv

theorem enter (c : Dev nD) :
    iprop(Pipeline.scopedRest (Pipeline.pin (pcfgs (F := F)) adm 0).spec c ∗ (∃ r, prngReg c r) ∗ StableHlo.held (c.tc : Thread nD τ) kept (V₁ m c)
      ∗ started (parts m) (resid m) (gains m) c) ⊢ (pdats m 0 c).Φ 0 := by
  rw [show (pdats m 0 c).Φ 0 = before m c from rfl, show Pipeline.scopedRest (Pipeline.pin (pcfgs (F := F)) adm 0).spec c = (scratch c : sProp 𝕄) from scratch_eq c, held_kept,
    show V₁ m c main_arg0 = parts m c from V_main_arg0 m c, show V₁ m c main_arg1 = resid m c from V_main_arg1 m c]
  unfold before
  iintro ⟨Hs, Hr, ⟨Ha, Hb, H2, Ho⟩, Hg⟩
  isplitl [Hg]; · iexact Hg
  isplitl [Ha Hb H2 Ho]
  · isplitl [Ha]; · iexact Ha
    isplitl [Hb]; · iexact Hb
    isplitl [H2]; · iexact H2
    iexists _; iexact Ho
  isplitl [Hs]; · iexact Hs
  iexact Hr

theorem leave (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) kept (V₂ m c)
      ∗ Pipeline.ownSems0 osem c ∗ semVal (cell c .bar) 0) := by
  rw [show (pdats m 0 c).Φ (Fin.last _) = after m c from rfl, show Pipeline.scopedRest (Pipeline.pin (pcfgs (F := F)) adm 0).spec c = (scratch c : sProp 𝕄) from scratch_eq c,
    held_kept, own_sems, V₂_v2,
    V₂_of_ne m c main_arg0 (by decide), V₂_of_ne m c main_arg1 (by decide), V₂_of_ne m c main_arg2 (by decide), V_main_arg0 m c, V_main_arg1 m c]
  unfold after
  iintro ⟨⟨Hb, Hv⟩, Hm, Hs, Hr⟩
  isplitl [Hs]; · iexact Hs
  isplitl [Hr]; · iexact Hr
  isplitl [Hm]; · iexact Hm
  isplitl [Hv]; · iexact Hv
  iexact Hb

/-- What a core owes lies above its waits for the staged row. -/
theorem cut (c : Dev nD) (t : Fin ((Pipeline.pin (pcfgs (F := F)) adm 0).N + 1)) (g : GSem nD τ sig) (i : Unit) (h : 0 < (pdats m 0 c).owed t g i) :
    i ∈ idx g ∧ (0 : ℕ) < lv g i := by
  have e : (pdats m 0 c).owed t = if t.val = 0 then owesAll c else 0 := rfl
  rw [e] at h
  split at h
  · have h' := owesAll_above c g i h
    exact ⟨mem_idx i h'.1, h'.2⟩
  · exact absurd h (Nat.lt_irrefl 0)

theorem stage_low : ∀ (w : Fin cfg0.W) (s : Fin (cfg0.win w).nbuf), Cell.of (.dma ((cfg0.win w).sem s)) = none := by decide

set_option backward.isDefEq.respectTransparency.types false in
def reg0 : ℝ𝕊 0 :=
  Pipeline.RegionSeg.ofTalk (pcfgs (F := F)) adm (pdats m) () defs₀ 𝒱₀ idx lv 0 osem own_facts
    kept kept (Finset.Subset.refl _) launch0.toP rfl (fun c => (body_obligation m c).loose)
    (fun _ => 0) owesAll (fun c => (owed_zero m c).trans (zero_add _).symm) (owed_last m) (fun _ => rfl) (fun c => (pdats m 0 c).share_full fun _ => rfl)
    (V₁ m) (V₂ m) (fun _ b hb => absurd hb (by rw [Finset.sdiff_self]; exact Finset.notMem_empty b))
    (fun c => start (parts m) (resid m) (gains m) c) (fun c => semVal (cell c .bar) 0) (fun c => started (parts m) (resid m) (gains m) c) (fun c => semVal (cell c .bar) 0)
    (opening (parts m) (resid m) (gains m)) (enter m) (leave m)
    (fun c => by iintro H; imodintro; iexact H)
    (fun _ => 0)
    ⟨fun _ _ _ => mem_idx _ rfl, fun c w s => by unfold lv; exact le_of_eq (by rw [show Cell.of _ = none from stage_low w s]), fun c t g i h => cut m c t g i h⟩
    (fun _ => iprop(emp))
    (fun _ w => by match w with | ⟨0, _⟩ => rfl) (fun c w => by
      match w with
      | ⟨0, _⟩ => exact ((dat0 m c).arrAt_in 0 rfl _).trans (V₂_of_ne m c main_v1 (by decide)).symm)

/-- What rides with a device through the host's row. -/
def ride (c : Dev nD) : sProp 𝕄 :=
  iprop(start (parts m) (resid m) (gains m) c ∗ (∃ r, prngReg c r) ∗ owing c (owesAll c))

theorem ops_sub : ∀ op ∈ (hostOps0 : List (HloOp τ sig (Elt F))), op.bufs ⊆ Pipeline.ucRefs τ sig := fun op h => by
  simp only [List.mem_singleton] at h; subst h
  show ({Proc.devRef .tc main_arg2, Proc.devRef .tc main_v1} : Finset (DevRef τ sig)) ⊆ _
  decide

def seg0 : ℍ := Pipeline.HostSeg.ofOps _ _ _ _ _ (Pipeline.ucRefs τ sig) hostOps0 ops_sub (List.forall_iff_forall_mem.mp hostOps0_fresh) (V₀ m) (ride m)

def segs : List (Pipeline.Seg (pcfgs (F := F)) adm (pdats m) () defs₀ 𝒱₀ idx lv) := [.host (seg0 m), .region (reg0 m)]

theorem main_eq (c : Dev nD) : main (F := F) c = Pipeline.Seg.run (segs m) := main_segs adm (pdats m) () 𝒱₀ idx lv (seg0 m) (reg0 m) rfl c

theorem reg_pre (c : Dev nD) : iprop(StableHlo.held (c : Thread nD τ) (Pipeline.ucRefs τ sig) (V₁ m c) ∗ ride m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) kept (V₁ m c) ∗ emp) ∗ start (parts m) (resid m) (gains m) c
    ∗ ∃ Wd, owes (c : Thread nD τ) (0 + owesAll c) Wd)
  rw [held_all, zero_add]
  unfold ride owing
  iintro ⟨⟨H1, Hk⟩, Hg, Hr, HO⟩
  isplitl [H1]; · iexact H1
  isplitl [Hr]; · iexact Hr
  isplitl [Hk]
  · isplitl [Hk]; · iexact Hk
    iempintro
  isplitl [Hg]; · iexact Hg
  iexact HO

abbrev T₀ (c : Dev nD) : sProp 𝕄 := iprop(StableHlo.held (c : Thread nD τ) (Pipeline.ucRefs τ sig) (V₀ m c) ∗ ride m c)
abbrev Tₙ (c : Dev nD) : sProp 𝕄 := iprop(StableHlo.held (c : Thread nD τ) kept (V₂ m c) ∗ semVal (cell c .bar) 0)

theorem reg_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) kept (V₂ m c) ∗ emp) ∗ semVal (cell c .bar) 0
    ∗ ∃ Wd, owes (c : Thread nD τ) (0 : CellTallies nD τ sig Unit) Wd) ⊢ _
  iintro ⟨-, -, ⟨Hk, -⟩, Hb, HO⟩
  isplitr [HO]
  · isplitl [Hk] <;> iassumption
  iexact HO

/-! ## The launch -/

/-- The element the launch owns: the pipeline's part, and the protocol's. -/
def u₀ : UU :=
  (initOf (Pipeline.cells (Pipeline.pin (pcfgs (F := F)) adm) cellOf_inj) (Pipeline.launchToks (Pipeline.pin (pcfgs (F := F)) adm) cellOf_inj),
    launchOf barCells ownCells toks)

/-- The protocol's part, kept at device 0 until it is dealt. -/
def kitty (c : Dev nD) : sProp 𝕄 := if c = 0 then BI.own (ER (launchOf barCells ownCells toks)) else iprop(emp)

theorem kitty_all : bigSep Finset.univ (kitty (F := F)) = BI.own (ER (launchOf barCells ownCells toks)) := by
  rw [bigSep_univ_at _ (0 : Dev nD), bigSep_congr (s := Finset.univ.erase (0 : Dev nD)) (Ψ := fun _ => (BI.emp : sProp 𝕄))
      fun c hc => by unfold kitty; rw [if_neg (Finset.ne_of_mem_erase hc)]; rfl, BI.bigSep_emp_const]
  unfold kitty; rw [if_pos rfl]
  exact BI.equiv_iff.mp sep_emp

theorem bar_only : ∀ sm : SemLoc sig, sm.isScoped .tc = false → sm = .reg barrier0 := by decide
theorem bar_sems (c : Dev nD) : (unscopedSems0 c : sProp 𝕄) = semVal (cell c .bar) 0 := by
  unfold unscopedSems0
  rw [show (Finset.univ.filter fun sm : SemLoc sig => ¬ sm.isScoped .tc) = {SemLoc.reg barrier0} from by decide, BI.bigSep_singleton]
  rfl

/-- What stays with a device of the protocol's share, and of its own. -/
def share (c : Dev nD) : sProp 𝕄 := iprop((fresh c .bar ∗ bigSepL Cell.own (fun κ => openTok ER (cell c κ))) ∗ paid c)
def held₀ (c : Dev nD) : sProp 𝕄 :=
  iprop(StableHlo.held (c : Thread nD τ) (Pipeline.ucRefs τ sig) (V₀ m c) ∗ expected c ∗ owes (c : Thread nD τ) (owesAll c) ∅ ∗ ∃ r, prngReg c r)

theorem deal_one (N : GSem nD τ sig → ℕ) (c : Dev nD) :
    iprop(recs (parts m) (resid m) (gains m) N ∗ (share c ∗ held₀ m c)) ⊢ T₀ m c := by
  unfold share held₀ T₀ ride start owing
  iintro ⟨#HR, ⟨Hs, Hp⟩, Hh, He, HO, Hr⟩
  isplitl [Hh]; · iexact Hh
  isplitl [Hs Hp He]
  · isplitr; · iexists N; iexact HR
    isplitl [Hs]; · iexact Hs
    isplitl [Hp] <;> iassumption
  isplitl [Hr]; · iexact Hr
  iexists ∅; iexact HO

/-- What a core finds at launch. -/
abbrev found (c : Dev nD) : sProp 𝕄 :=
  iprop(unscopedBufs c (fun b => m ((c : Thread nD τ).loc b)) ∗ unscopedSems0 c
    ∗ owes (c : Thread nD τ) (owesAll c) ∅ ∗ Pipeline.launchCred owesAll c ∗ prngReg c (ρ c) ∗ kitty c)

theorem found_sorted (c : Dev nD) : found m ρ c ⊢ iprop(held₀ m c ∗ (semVal (cell c .bar) 0 ∗ kitty c)) := by
  unfold found
  rw [show unscopedBufs c (fun b => m ((c : Thread nD τ).loc b)) = StableHlo.held (c : Thread nD τ) (Pipeline.ucRefs τ sig) (V₀ m c) from Pipeline.unscopedBufs_held c (V₀ m c),
    bar_sems]
  unfold held₀
  iintro ⟨Hh, Hb, HO, Hc, Hr, Hk⟩
  ihave He := (creds (F := F) c) $$ Hc
  isplitr [Hb Hk]
  · isplitl [Hh]; · iexact Hh
    isplitl [He]; · iexact He
    isplitl [HO]; · iexact HO
    iexists (ρ c); iexact Hr
  isplitl [Hb] <;> iassumption

theorem bars_in : (bigSep Finset.univ fun c : Dev nD => (semVal (cell c .bar) 0 : sProp 𝕄)) ⊢ bigSep barCells fun g => (semVal g 0 : sProp 𝕄) :=
  Entails.of_eq (bigSep_map (s := Finset.univ) barEmb (Φ := fun g : GSem nD τ sig => (semVal g 0 : sProp 𝕄))).symm
theorem bars_out : (bigSep barCells fun g => (atPos ER g 0 ∅ 0 : sProp 𝕄)) ⊢ bigSep Finset.univ fun c : Dev nD => fresh c .bar :=
  Entails.of_eq (bigSep_map (s := Finset.univ) barEmb (Φ := fun g : GSem nD τ sig => (atPos ER g 0 ∅ 0 : sProp 𝕄)))
theorem bars_reached : (bigSep barCells fun g => (reached ER g 0 : sProp 𝕄)) ⊢ bigSep Finset.univ fun c : Dev nD => (reached ER (cell c .bar) 0 : sProp 𝕄) :=
  Entails.of_eq (bigSep_map (s := Finset.univ) barEmb (Φ := fun g : GSem nD τ sig => (reached ER g 0 : sProp 𝕄)))
theorem opens_out : (bigSep ownCells fun g => (openTok ER g : sProp 𝕄))
    ⊢ bigSep Finset.univ fun c : Dev nD => bigSepL Cell.own (fun κ => (openTok ER (cell c κ) : sProp 𝕄)) :=
  Entails.of_eq (by
    rw [bigSep_map, bigSep_univ_prod]
    exact bigSep_congr fun c _ => own_univ fun κ => (openTok ER (cell c κ) : sProp 𝕄))
theorem invs_out (N : GSem nD τ sig → ℕ) :
    (bigSep (barCells ∪ ownCells) fun g => (cellInv ER (Rd (parts m) (resid m) (gains m)) (N g) g : sProp 𝕄))
      ⊢ bigSep Finset.univ fun p : Dev nD × Cell => (cellInv ER (Rd (parts m) (resid m) (gains m)) (N (cell p.1 p.2)) (cell p.1 p.2) : sProp 𝕄) :=
  Entails.of_eq (by
    rw [cells_all]
    exact bigSep_map (s := Finset.univ) cellEmb (Φ := fun g : GSem nD τ sig => (cellInv ER (Rd (parts m) (resid m) (gains m)) (N g) g : sProp 𝕄)))

/-- The launch: every cell under its invariant, and everything dealt. -/
theorem init : iprop((bigSep Finset.univ fun c : Dev nD => found m ρ c) ∗ levAts idx lv) ⊢ (|={Set.univ}=> bigSep Finset.univ (T₀ m) : sProp 𝕄) := by
  iintro ⟨H, -⟩
  ihave H' := (show (bigSep Finset.univ fun c : Dev nD => found m ρ c)
      ⊢ (bigSep Finset.univ fun c : Dev nD => iprop(held₀ m c ∗ (semVal (cell c .bar) 0 ∗ kitty c)) : sProp 𝕄) from bigSep_mono fun c _ => found_sorted m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (kitty_all (F := F))) $$ HG
  imod (Rounds.fund_launch ER (Rd (parts m) (resid m) (gains m)) cells_disjoint (fun g _ h => h) toks) $$ [Hv Hu] with ⟨%N, -, #Hinv, #Hr, Hat, Hopen, Htok⟩
  · isplitl [Hv]
    · iapply bars_in $$ Hv
    · iexact Hu
  imodintro
  iapply (bigSep_with_persistent (R := recs (parts m) (resid m) (gains m) N) (Φ := fun c => iprop(share c ∗ held₀ m c)) fun c _ => deal_one m N c)
  isplitr
  · unfold recs
    isplitr; · iapply (invs_out m N); iexact Hinv
    iapply bars_reached; iexact Hr
  iapply (Entails.of_eq (bigSep_sep' _ _ _).symm)
  isplitr [HB]
  · unfold share
    iapply (Entails.of_eq (bigSep_sep' _ _ _).symm)
    isplitr [Htok]
    · iapply (Entails.of_eq (bigSep_sep' _ _ _).symm)
      isplitl [Hat]; · iapply bars_out $$ Hat
      iapply opens_out $$ Hopen
    iapply toks_paid $$ Htok
  iexact HB

/-! ## The run -/

set_option backward.isDefEq.respectTransparency.types false in
/-- From any memory with all counters zero, at any float values: every weakly fair execution of the program on the four devices
    ends, with the arguments of every device as they were, its result the one above, and every counter zero again. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v2) = result m c) ∧ r.2.sem = fun _ => 0) :=
  Pipeline.θ_run_regions_kit_sems (pcfgs (F := F)) adm (pdats m) () cellOf_inj EP defs₀ 𝒱₀ idx lv m ρ main (segs m)
    (fun c Q => by rw [main_eq m c])
    (by simp only [segs, Pipeline.Seg.pipes_host, Pipeline.Seg.pipes_region, Pipeline.Seg.pipes_nil]; decide)
    (O₀ := owesAll) (hL := idx_of_ne) (G := kitty) (u₀ := u₀)
    (hu₀ := by
      unfold u₀
      iintro Hu
      ihave H := (ownU_pair _ _) $$ Hu
      icases H with ⟨HP, HX⟩
      imodintro
      isplitl [HP]; · iexact HP
      rw [kitty_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_arg2) = V₂ m c main_arg2 ∧ s.mem ((c : Thread nD τ).loc main_v2) = V₂ m c main_v2)
      ∧ s.sem (cell c .bar) = 0)
    (hfin := fun c s' => by
      dsimp only [Tₙ]; rw [held_kept]
      iintro ⟨⟨⟨H0, H1, H2, Ho⟩, Hb⟩, HSI⟩
      icombine HSI H0 gives %h0
      icombine HSI H1 gives %h1
      icombine HSI H2 gives %h2
      icombine HSI Ho gives %ho
      icombine HSI Hb gives %hb
      imodintro
      isplitr
      · ipureintro
        exact ⟨⟨Buf.eq_of_forall_mem_univ h0, Buf.eq_of_forall_mem_univ h1, Buf.eq_of_forall_mem_univ h2, Buf.eq_of_forall_mem_univ ho⟩, by simpa using hb⟩
      iexact HSI)
    (hQ := fun s h hs => ⟨fun c => by
        obtain ⟨⟨h0, h1, h2, ho⟩, -⟩ := h c
        rw [V₂_of_ne m c main_arg0 (by decide), V_main_arg0] at h0
        rw [V₂_of_ne m c main_arg1 (by decide), V_main_arg1] at h1
        rw [V₂_of_ne m c main_arg2 (by decide), V_main_arg2] at h2
        rw [V₂_v2] at ho
        exact ⟨h0, h1, h2, ho⟩,
      sem_eq_zero hs fun c sm hsm => by
        obtain rfl := bar_only sm hsm
        exact (h c).2⟩)

end Cert.KernelIdealRun

end
-- ==== Proof.Value.Row.lean ====
/-
  The mathematics of one row.

  A row `y` of 512 numbers is divided by the square root of its mean square plus a small positive number, and then
  multiplied with the gains. Instead of dividing one may multiply with the reciprocal square root, and instead of dividing
  the sum of squares by 512 one may multiply it with 1/512; on the extended reals this changes nothing, an infinite sum of
  squares included.
-/
module

public import Idealize.ShloMosaic.Lib.IdealHost

@[expose] public section

noncomputable section

namespace Cert.Value

open Idealize.ShloMosaic
open scoped BigOperators

/-- The small number under the square root. -/
def eps : EReal := Ideal.ofBits .f32 0x358637BD#32

/-- The sum of a row's squares. -/
def sumSq (y : Fin 512 → EReal) : EReal := ∑ k, y k * y k

/-- The row divided by its root mean square and multiplied with the gains. -/
def normed (y g : Fin 512 → EReal) (j : Fin 512) : EReal :=
  Ideal.div (y j) (Ideal.sqrt (Ideal.div (sumSq y) (Ideal.ofBits .f32 0x44000000#32) + eps)) * g j

theorem ofBits_512 : Ideal.ofBits .f32 0x44000000#32 = ((512 : ℝ) : EReal) := by
  simp [Ideal.ofBits, Ideal.ieee, -EReal.coe_mul]; norm_num
theorem ofBits_inv512 : Ideal.ofBits .f32 0x3B000000#32 = ((1 / 512 : ℝ) : EReal) := by
  simp [Ideal.ofBits, Ideal.ieee, -EReal.coe_mul]; norm_num

/-- The small number is a positive real. -/
theorem eps_pos : ∃ e : ℝ, 0 < e ∧ eps = (e : EReal) := by
  refine ⟨(8796093 : ℝ) * 2 ^ (-43 : ℤ), by positivity, ?_⟩
  unfold eps
  simp [Ideal.ofBits, Ideal.ieee, -EReal.coe_mul]

/-- A square is not negative. -/
theorem sq_nonneg (x : EReal) : 0 ≤ x * x := by
  induction x with
  | bot => simp
  | top => simp
  | coe r => exact_mod_cast mul_self_nonneg r

theorem sumSq_nonneg (y : Fin 512 → EReal) : 0 ≤ sumSq y := Finset.sum_nonneg fun k _ => sq_nonneg (y k)

/-- Dividing by 512 is multiplying with 1/512. -/
theorem mean_eq (S : EReal) : Ideal.div S (Ideal.ofBits .f32 0x44000000#32) = S * Ideal.ofBits .f32 0x3B000000#32 := by
  rw [ofBits_512, ofBits_inv512, Ideal.div_coe (by norm_num)]

/-- Multiplying with the reciprocal square root of a positive number is dividing by its square root. -/
theorem mul_rsqrt {q : EReal} (hq : 0 < q) (x : EReal) : x * Ideal.rsqrt q = Ideal.div x (Ideal.sqrt q) := by
  induction q with
  | bot => exact absurd hq (by simp)
  | top => rw [Ideal.rsqrt_top, Ideal.sqrt_top]; unfold Ideal.div; rw [if_neg (by simp), EReal.inv_top]
  | coe r =>
    have hr : 0 < r := by exact_mod_cast hq
    have hs : Real.sqrt r ≠ 0 := (Real.sqrt_pos.mpr hr).ne'
    rw [Ideal.rsqrt_coe, Ideal.sqrt_coe, if_neg (not_lt.mpr hr.le), if_neg (not_lt.mpr hr.le), if_neg hr.ne', Ideal.div_coe hs, one_div]

/-- The mean square plus the small number is positive. -/
theorem arg_pos (y : Fin 512 → EReal) : 0 < sumSq y * Ideal.ofBits .f32 0x3B000000#32 + eps := by
  obtain ⟨e, he, hee⟩ := eps_pos
  have h0 : 0 ≤ sumSq y * Ideal.ofBits .f32 0x3B000000#32 :=
    mul_nonneg (sumSq_nonneg y) (by rw [ofBits_inv512]; exact_mod_cast (by norm_num : (0 : ℝ) ≤ 1 / 512))
  rw [hee]
  exact lt_of_lt_of_le (by exact_mod_cast he : (0 : EReal) < (e : EReal)) (le_add_of_nonneg_left h0)

/-- The row scaled by the reciprocal root of its mean square is the row divided by the root. -/
theorem scaled_eq (y g : Fin 512 → EReal) (j : Fin 512) :
    y j * Ideal.rsqrt (sumSq y * Ideal.ofBits .f32 0x3B000000#32 + eps) * g j = normed y g j := by
  unfold normed
  rw [mul_rsqrt (arg_pos y), mean_eq]

end Cert.Value

end
-- ==== Proof.Value.Chunk.lean ====
/-
  What one chunk's reduction computes, at one entry: the entry of the normalised row.
-/
module

public import proofs.«01_k».proof.Proof.KernelIdealRun.Text
public import proofs.«01_k».proof.Proof.Value.Row
public import Idealize.ShloMosaic.Lib.MatmulPlain
public import Idealize.ShloMosaic.Lib.ValueLayout

@[expose] public section

set_option maxRecDepth 16384

noncomputable section

namespace Cert.Value

open Cert.KernelIdeal Cert.KernelIdeal.Gen Cert.KernelIdealRun
open Idealize.ShloMosaic Idealize.ShloMosaic.ValueIdx
open scoped BigOperators

/-- The product of the squares with a column of ones is the sum of the row's squares. -/
theorem ones_product {n : ℕ} (w : FVec Ideal (Sh n) .f32) (r : Fin n) :
    matmul (F := Ideal) (DotDims.plain n 512 1) none (mulf w w) (broadcast S512x1 (Scalar.ofBits .f32 0x3F800000#32))
      (constant ⟨2, ![n, 1]⟩ .f32 0x00000000#32) (ix2 r 0) = sumSq fun k => w (ix2 r k) := by
  refine (Ideal.matmul_plain_apply (M := n) (K := 512) (N := 1) none (mulf w w) _ _ r 0).trans ?_
  have hz : (constant (F := Ideal) ⟨2, ![n, 1]⟩ .f32 0x00000000#32) (ix2 r (0 : Fin 1)) = 0 := Ideal.ofBits_zero_f32
  rw [hz, zero_add]
  refine Finset.sum_congr rfl fun k _ => ?_
  show w (ix2 r k) * w (ix2 r k) * Ideal.ofBits .f32 0x3F800000#32 = _
  rw [Ideal.ofBits_one_f32, mul_one]

/-- What a row is multiplied with, from the sum of its squares. -/
theorem scale_apply {n : ℕ} (w : FVec Ideal (Sh n) .f32) (r : Fin n) :
    scale w (ix2 (n0 := n) (n1 := 1) r 0)
      = Ideal.rsqrt ((sumSq fun k => w (ix2 r k)) * Ideal.ofBits .f32 0x3B000000#32 + eps) := by
  rw [← ones_product w r]; rfl

/-- One column broadcast over 512 reads the operand's row. -/
theorem broadcast_col {n : ℕ} (v : FVec Ideal ⟨2, ![n, 1]⟩ .f32) (r : Fin n) (j : Fin 512) :
    broadcastTo (Sh n) v (bcCol n) (ix2 r j) = v (ix2 (n0 := n) (n1 := 1) r 0) := by
  refine broadcastTo_apply v (bcCol n) (ix2 r j) (ix2 (n0 := n) (n1 := 1) r 0) fun a => ?_
  match a with
  | ⟨0, _⟩ =>
    show r.val = if n = 1 then 0 else r.val
    split
    · have := r.isLt; omega
    · rfl
  | ⟨1, _⟩ => rfl

/-- An entry of a chunk's result: the sum of the three rows, normalised. -/
theorem pay_apply {n : ℕ} (x y z : Vec Ideal (Sh n) .f32) (g : Vec Ideal S1x512 .f32) (r : Fin n) (j : Fin 512) :
    pay x y z g (ix2 r j)
      = normed (fun k => x (ix2 r k) + y (ix2 r k) + z (ix2 r k)) (fun k => g (ix2 (n0 := 1) (n1 := 512) 0 k)) j := by
  unfold KernelIdealRun.pay
  rw [shapeCast_self, shapeCast_self, mulf_apply, mulf_apply, broadcast_col, scale_apply]
  rw [show broadcastTo (Sh n) g (bcRow n) (ix2 r j) = g (ix2 (n0 := 1) (n1 := 512) 0 j) from broadcastTo_1b_ab_apply g (bcRow n) r j]
  exact scaled_eq (fun k => x (ix2 r k) + y (ix2 r k) + z (ix2 r k)) (fun k => g (ix2 (n0 := 1) (n1 := 512) 0 k)) j

end Cert.Value

end
-- ==== Proof.Value.Whole.lean ====
/-
  What the whole result holds.

  The partial sums of a device are those of its x coordinate, the residual and the gains are the same on every device. Then
  row `r` of every device's result is row `r` of the sum of both partial sums and the residual, normalised: the rows a
  device computes and the rows its y partner forwards to it alike.
-/
module

public import proofs.«01_k».proof.Proof.KernelIdealRun.Contents
public import proofs.«01_k».proof.Proof.Value.Chunk

@[expose] public section

set_option maxRecDepth 16384

noncomputable section

namespace Cert.Value

open Cert.KernelIdeal Cert.KernelIdeal.Gen Cert.KernelIdealRun
open Idealize.ShloMosaic Idealize.ShloMosaic.ValueIdx

/-- The device's x coordinate. -/
def px (c : Dev nD) : Fin 2 := ⟨c.val / 2, by have : c.val < 4 := c.isLt; omega⟩

theorem px_cases (c : Dev nD) : (px c = 0 ∧ px (xn c) = 1) ∨ (px c = 1 ∧ px (xn c) = 0) := by revert c; decide

/-- Every row of the scratch buffers lies in its chunk. -/
theorem chunkOf_spec : ∀ r : Fin 304, off (chunkOf r.val) ≤ r.val ∧ r.val - off (chunkOf r.val) < sz (chunkOf r.val) := by
  decide +kernel

/-- Both partial sums and the residual added, at row `r`. -/
def total (P : (⟨3, ![2, 512, 512]⟩ : Shape).Idx → EReal) (R : (Sh 512).Idx → EReal) (r k : Fin 512) : EReal :=
  P (ix3 0 r k) + P (ix3 1 r k) + R (ix2 r k)

/-- The whole result: every row of the sum normalised. -/
def whole (P : (⟨3, ![2, 512, 512]⟩ : Shape).Idx → EReal) (R : (Sh 512).Idx → EReal) (g : Fin 512 → EReal) : (Sh 512).Idx → EReal :=
  fun i => normed (total P R (i 0)) g (i 1)

section

variable {A : Dev nD → S1x512x512.Idx → Elt Ideal .f32} {B : Dev nD → S512x512.Idx → Elt Ideal .f32} {G : Dev nD → Vec Ideal S1x512 .f32}
variable {P : (⟨3, ![2, 512, 512]⟩ : Shape).Idx → EReal} {R : (Sh 512).Idx → EReal} {g : Fin 512 → EReal}

/-- A row of the partial sums a device fetches. -/
theorem rows_psF (hA : ∀ c r k, A c (ix3 0 r k) = P (ix3 (px c) r k)) (c d : Dev nD) (hd : py d = py c) (k : Fin 9) {r : ℕ}
    (h : r < sz k) (hp : prow c (off k + r) < 512) (j : Fin 512) :
    rows k (psF A d) (ix2 (n0 := sz k) (n1 := 512) ⟨r, h⟩ j) = P (ix3 (px d) ⟨prow c (off k + r), hp⟩ j) := by
  have e : prow d (off k + r) = prow c (off k + r) := by unfold prow; rw [hd]
  rw [← hA d]
  show at3 (A d) (prow d (off k + r)) j = _
  rw [e]
  exact dif_pos hp

/-- A row of the residual a device fetches. -/
theorem rows_rsF (hB : ∀ c, B c = R) (c : Dev nD) (k : Fin 9) {r : ℕ}
    (h : r < sz k) (hp : prow c (off k + r) < 512) (j : Fin 512) :
    rows k (rsF B c) (ix2 (n0 := sz k) (n1 := 512) ⟨r, h⟩ j) = R (ix2 ⟨prow c (off k + r), hp⟩ j) := by
  rw [← hB c]
  exact dif_pos hp

/-- A row a device computes is that row of the sum, normalised. -/
theorem outR_eq (hA : ∀ c r k, A c (ix3 0 r k) = P (ix3 (px c) r k)) (hB : ∀ c, B c = R)
    (hG : ∀ c k, G c (ix2 (n0 := 1) (n1 := 512) 0 k) = g k) (c : Dev nD) {r : ℕ} (h : r < 304) (j : Fin 512) :
    outR A B G c r j = normed (total P R ⟨prow c r, prow_lt c h⟩) g j := by
  obtain ⟨h1, h2⟩ : off (chunkOf r) ≤ r ∧ r - off (chunkOf r) < sz (chunkOf r) := chunkOf_spec ⟨r, h⟩
  generalize chunkOf r = k at h1 h2
  obtain ⟨s, hs, rfl⟩ : ∃ s, s < sz k ∧ r = off k + s := ⟨r - off k, h2, by omega⟩
  have hp := prow_lt c h
  rw [outR_chunk A B G c k hs, outC, pay_apply]
  refine congrArg₂ (fun u v => normed u v j) (funext fun i => ?_) (funext fun i => hG c i)
  rw [rows_psF hA c c rfl k hs hp, rows_psF hA c (xn c) (py_xn c) k hs hp, rows_rsF hB c k hs hp]
  unfold total
  rcases px_cases c with ⟨e0, e1⟩ | ⟨e0, e1⟩ <;> rw [e0, e1]
  rw [add_comm (P (ix3 1 _ _))]

/-- Every device's result is the whole result. -/
theorem resF_eq (hA : ∀ c r k, A c (ix3 0 r k) = P (ix3 (px c) r k)) (hB : ∀ c, B c = R)
    (hG : ∀ c k, G c (ix2 (n0 := 1) (n1 := 512) 0 k) = g k) (c : Dev nD) : resF A B G c = whole P R g := by
  funext i
  have hi : (i 0).val < 512 := (i 0).isLt
  have hy := py_le c
  have hyn := py_yn c
  -- a row computed by `d` at `r` that is row `i 0` of the arrays
  have key : ∀ (d : Dev nD) (r : ℕ), r < 304 → prow d r = (i 0).val → outR A B G d r (i 1) = whole P R g i := fun d r h e =>
    (outR_eq hA hB hG d h (i 1)).trans (congrArg (fun q : Fin 512 => normed (total P R q) g (i 1)) (Fin.ext e))
  show resR A B G c (i 0).val (i 1) = _
  unfold resR
  split_ifs with h1 h2
  · refine key c _ (by omega) ?_
    unfold prow; rw [if_pos (by omega)]; omega
  · refine key (yn c) _ (by omega) ?_
    unfold prow; rw [if_pos (by omega), hyn]; omega
  · refine key c _ (by omega) ?_
    unfold prow; rw [if_neg (by omega)]; omega

end

end Cert.Value

end
-- ==== Proof.Value.Reference.lean ====
/-
  What the reference computes: every row of the sum of both partial sums and the residual, normalised. It starts each of its
  two sums from zero, which adds nothing.
-/
module

public import proofs.«01_k».proof.Proof.Gen.ReferenceIdeal.Run
public import proofs.«01_k».proof.Proof.Value.Whole
public import Idealize.ShloMosaic.Lib.Pointwise.Reduce

@[expose] public section

set_option maxRecDepth 16384

noncomputable section

namespace Cert.Value

open Cert.ReferenceIdeal Cert.ReferenceIdeal.Gen
open Idealize.ShloMosaic hiding ix1 ix2 ix3
open Idealize.ShloMosaic.ValueIdx
open scoped BigOperators

/-! ## The reference's broadcasts, each read at one entry -/

theorem column_apply {α : Type} (x : S512.Idx → α) (r : Fin 512) :
    broadcastInDim S512x1 ![0] bcast_S512_S512x1_0 x (ix2 (n0 := 512) (n1 := 1) r 0) = x (ix1 r) :=
  broadcastInDim_apply (s := S512) (t := S512x1) ![0] bcast_S512_S512x1_0 x _ (ix1 r) fun a => by
    match a with
    | ⟨0, _⟩ => rfl

theorem spread_column_apply {α : Type} (x : S512x1.Idx → α) (r j : Fin 512) :
    broadcastInDim S512x512 ![0, 1] bcast_S512x1_S512x512_0_1 x (ix2 r j) = x (ix2 (n0 := 512) (n1 := 1) r 0) :=
  broadcastInDim_apply (s := S512x1) (t := S512x512) ![0, 1] bcast_S512x1_S512x512_0_1 x _ (ix2 (n0 := 512) (n1 := 1) r 0) fun a => by
    match a with
    | ⟨0, _⟩ => rfl
    | ⟨1, _⟩ => rfl

theorem row_apply {α : Type} (x : S512.Idx → α) (j : Fin 512) :
    broadcastInDim S1x512 ![1] bcast_S512_S1x512_1 x (ix2 (n0 := 1) (n1 := 512) 0 j) = x (ix1 j) :=
  broadcastInDim_apply (s := S512) (t := S1x512) ![1] bcast_S512_S1x512_1 x _ (ix1 j) fun a => by
    match a with
    | ⟨0, _⟩ => rfl

theorem spread_row_apply {α : Type} (x : S1x512.Idx → α) (r j : Fin 512) :
    broadcastInDim S512x512 ![0, 1] bcast_S1x512_S512x512_0_1 x (ix2 r j) = x (ix2 (n0 := 1) (n1 := 512) 0 j) :=
  broadcastInDim_apply (s := S1x512) (t := S512x512) ![0, 1] bcast_S1x512_S512x512_0_1 x _ (ix2 (n0 := 1) (n1 := 512) 0 j) fun a => by
    match a with
    | ⟨0, _⟩ => rfl
    | ⟨1, _⟩ => rfl

/-! ## The reference's result -/

variable (P : FVec Ideal S2x512x512 .f32) (R : FVec Ideal S512x512 .f32) (g : FVec Ideal S512 .f32)

/-- The sum the reference normalises. -/
def refSum : FVec Ideal S512x512 .f32 :=
  addf (Host.reduceAdd P (constant S_ .f32 0x00000000#32) reducesTo_S2x512x512_S512x512_d0 h_S_) R

/-- The sums of the squares of its rows. -/
def refSq (y : FVec Ideal S512x512 .f32) : FVec Ideal S512 .f32 :=
  Host.reduceAdd (mulf y y) (constant S_ .f32 0x00000000#32) reducesTo_S512x512_S512_d1 h_S_

/-- The roots of its rows' mean squares. -/
def refRoot (y : FVec Ideal S512x512 .f32) : FVec Ideal S512x1 .f32 :=
  Host.sqrt (addf (Host.divf (broadcastInDim S512x1 ![0] bcast_S512_S512x1_0 (refSq y))
    (broadcastInDim S512x1 ![] bcast_S_S512x1 (constant S_ .f32 0x44000000#32)))
    (broadcastInDim S512x1 ![] bcast_S_S512x1 (constant S_ .f32 0x358637BD#32)))

/-- The reference's result. -/
def refOut : FVec Ideal S512x512 .f32 :=
  mulf (Host.divf (refSum P R) (broadcastInDim S512x512 ![0, 1] bcast_S512x1_S512x512_0_1 (refRoot (refSum P R))))
    (broadcastInDim S512x512 ![0, 1] bcast_S1x512_S512x512_0_1 (broadcastInDim S1x512 ![1] bcast_S512_S1x512_1 g))

/-- An entry of the sum. -/
theorem refSum_apply (r k : Fin 512) : refSum P R (ix2 r k) = total P R r k := by
  unfold refSum total
  rw [addf_apply, hostReduceAdd_apply, Ideal.hostReduceAdd_r3_a0, Fin.sum_univ_two]
  have hz : (constant (F := Ideal) S_ .f32 0x00000000#32) (Shape.Idx.first h_S_) = 0 := Ideal.ofBits_zero_f32
  rw [hz, zero_add]
  rfl

/-- The sum of a row's squares. -/
theorem refSq_apply (y : FVec Ideal S512x512 .f32) (r : Fin 512) : refSq y (ix1 r) = sumSq fun k => y (ix2 r k) := by
  unfold refSq sumSq
  rw [hostReduceAdd_apply, Ideal.hostReduceAdd_r2_a1]
  have hz : (constant (F := Ideal) S_ .f32 0x00000000#32) (Shape.Idx.first h_S_) = 0 := Ideal.ofBits_zero_f32
  rw [hz, zero_add]
  rfl

/-- The root of a row's mean square. -/
theorem refRoot_apply (y : FVec Ideal S512x512 .f32) (r : Fin 512) :
    refRoot y (ix2 (n0 := 512) (n1 := 1) r 0)
      = Ideal.sqrt (Ideal.div (sumSq fun k => y (ix2 r k)) (Ideal.ofBits .f32 0x44000000#32) + eps) := by
  show Ideal.sqrt (Ideal.div (broadcastInDim S512x1 ![0] bcast_S512_S512x1_0 (refSq y) (ix2 (n0 := 512) (n1 := 1) r 0)) _ + _) = _
  rw [column_apply, refSq_apply]
  rfl

/-- The reference's result is the whole result. -/
theorem refOut_eq : refOut P R g = whole P R fun k => g (ix1 k) := by
  funext i
  obtain ⟨r, j, rfl⟩ : ∃ (r j : Fin 512), i = ix2 r j := ⟨i 0, i 1, ValueIdx.eq_ix2 i⟩
  unfold refOut
  rw [mulf_apply, hostDivf_apply, spread_column_apply, spread_row_apply, row_apply, refRoot_apply, refSum_apply]
  simp only [refSum_apply]
  rfl

end Cert.Value

end
-- ==== Proof.Value.Equation.lean ====
/-
  The equation between the kernel and the reference.

  The kernel's gains are the argument, given a leading axis of one before the kernel starts; a device's partial sums are the
  block of the whole array that its x coordinate names. So every device's result is the reference's.
-/
module

public import proofs.«01_k».proof.Proof.KernelIdealRun.Launch
public import proofs.«01_k».proof.Proof.Value.Reference
public import Idealize.ShloMosaic.Lib.Layout

@[expose] public section

set_option maxRecDepth 16384

noncomputable section

namespace Cert.Value

open Cert.KernelIdeal Cert.KernelIdeal.Gen Cert.KernelIdealRun
open Idealize.ShloMosaic hiding ix1 ix2 ix3
open Idealize.ShloMosaic.TcCoe Idealize.ShloMosaic.ValueIdx Idealize.ShloMosaic.StableHlo

variable (m : (ℓ : Loc nD τ sig) → Buf (Elt Ideal) ℓ)

/-- The kernel finds the gains with a leading axis of one. -/
theorem gains_array (c : Dev nD) :
    V m c main_v1 = shapeCast S1x512 (m ((c : Thread nD τ).loc main_arg2)) shapeCasts_S512_S1x512 := by
  unfold V hostOps0
  after_results
  rfl

/-- The gains the kernel reads are the argument's. -/
theorem gains_apply (c : Dev nD) (k : Fin 512) :
    gains m c (ix2 (n0 := 1) (n1 := 512) 0 k) = m ((c : Thread nD τ).loc main_arg2) (ix1 k) := by
  refine Eq.trans ?_ (shapeCast_a_1a_apply (m ((c : Thread nD τ).loc main_arg2)) shapeCasts_S512_S1x512 0 k)
  rw [← gains_array]
  refine congrArg (V m c main_v1) (ext2 (n := 1) rfl ?_)
  show 0 + 1 * k.val = k.val
  omega

/-- The first mesh axis cuts the array in two, and a device takes the block its x coordinate numbers. -/
theorem block_number (c : Dev nD) : Layout.meshLin [2, 2] c.val [0] = c.val / 2 := by revert c; decide

/-- The block of the whole array a device holds is the one its x coordinate names. -/
theorem block_apply (P : (⟨3, ![2, 512, 512]⟩ : Shape).Idx → EReal) (c : Dev nD) (r k : Fin 512) :
    (Layout.blockN ⟨3, ![1, 512, 512]⟩ ⟨3, ![2, 512, 512]⟩ (Layout.meshBlock [2, 2] ![[0], [], []] c) P : S1x512x512.Idx → EReal)
        (ix3 0 r k)
      = P (ix3 (px c) r k) := by
  refine congrArg P (funext fun a => Fin.ext ?_)
  rw [Layout.TilesN.idx_val]
  match a with
  | ⟨0, _⟩ =>
    show Layout.meshLin [2, 2] c.val [0] * 1 + 0 = c.val / 2
    rw [block_number]; omega
  | ⟨1, _⟩ => show 0 * 512 + r.val = r.val; omega
  | ⟨2, _⟩ => show 0 * 512 + k.val = k.val; omega

/-- Every device's result is the reference's result of the whole arrays. -/
theorem result_eq (P : (⟨3, ![2, 512, 512]⟩ : Shape).Idx → EReal) (R : (Sh 512).Idx → EReal) (g : (⟨1, ![512]⟩ : Shape).Idx → EReal)
    (h : ∀ c : Dev nD, m ((c : Thread nD τ).loc main_arg0)
        = Layout.blockN ⟨3, ![1, 512, 512]⟩ ⟨3, ![2, 512, 512]⟩ (Layout.meshBlock [2, 2] ![[0], [], []] c) P
      ∧ m ((c : Thread nD τ).loc main_arg1) = R ∧ m ((c : Thread nD τ).loc main_arg2) = g) (c : Dev nD) :
    result m c = refOut P R g := by
  rw [refOut_eq]
  refine resF_eq (fun c r k => ?_) (fun c => (h c).2.1) (fun c k => ?_) c
  · exact (congrFun (h c).1 _).trans (block_apply P c r k)
  · exact (gains_apply m c k).trans (congrFun (h c).2.2 _)

end Cert.Value

end
-- ==== Proof.lean ====
/-
  The certificate: the kernel's three frames, the idealisation, and the equation with the reference.

  `KernelRun` and `KernelIdealRun` run the kernel on all four devices, in machine floats and in exact numbers, with the
  contents of its result; `Value` says that those contents are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Launch
public import proofs.«01_k».proof.Proof.KernelIdealRun.Launch
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- The kernel in machine floats terminates, leaves its arguments as they were and every semaphore at zero. -/
theorem frame_kernel : Cert.quiescent_Kernel := fun m g _ =>
  (θ_run _ _ _).mono (fun _ h => ⟨fun c => ⟨(h.1 c).1, (h.1 c).2.1, (h.1 c).2.2.1⟩, h.2⟩) (Cert.KernelRun.run_main m g)

/-- The same of the kernel in exact numbers. -/
theorem frame_ideal : Cert.quiescent_KernelIdeal := fun m g _ =>
  (θ_run _ _ _).mono (fun _ h => ⟨fun c => ⟨(h.1 c).1, (h.1 c).2.1, (h.1 c).2.2.1⟩, h.2⟩) (Cert.KernelIdealRun.run_main m g)

/-- The reference has no semaphore. -/
theorem no_sem : (s : SemLoc Cert.ReferenceIdeal.sig) → False
  | .reg s => Nat.not_lt_zero _ s.isLt
  | .dma s => Nat.not_lt_zero _ s.isLt

/-- The same of the reference. -/
theorem frame_reference : Cert.quiescent_ReferenceIdeal := fun m g _ =>
  (θ_run _ _ _).mono (fun _ h => ⟨fun c => (h c).2, funext fun s => (no_sem s.2).elim⟩) (Cert.ReferenceIdeal.Value.run m g)

/-- In exact numbers every device's result is the reference's result of the whole arrays. -/
theorem value : Cert.algebraic_KernelIdeal_ReferenceIdeal := fun m g m' g' _ hin =>
  ⟨Cert.Value.refOut _ _ _,
    (θ_run _ _ _).mono (fun _ h c => ⟨(h.1 c).2.2.2.trans (Cert.Value.result_eq m _ _ _ hin c), (h.1 c).1, (h.1 c).2.1, (h.1 c).2.2.1⟩)
      (Cert.KernelIdealRun.run_main m g),
    (θ_run _ _ _).mono (fun _ h => h 0) (Cert.ReferenceIdeal.Value.run m' g')⟩

/-- Everything that is claimed. -/
theorem claim : Cert.Claim := ⟨Cert.Kernel.Gen.facts, Cert.KernelIdeal.Gen.facts, Cert.ReferenceIdeal.Gen.facts,
  frame_kernel, frame_ideal, frame_reference, trivial, value⟩

end Cert.Proof

end
